-- ==== Defs.lean ====
def Pre_Kernel [hPre_lengths_in_range : Cert.Pre_lengths_in_range.Facts] (m : (ℓ : Loc Cert.Kernel.nD Cert.Kernel.τ Cert.Kernel.sig) → Buf (Elt Bits) ℓ) : Prop :=
  ∀ c : Dev Cert.Kernel.nD,
    (Cert.Pre_lengths_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_lengths_in_range : Cert.Pre_lengths_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_lengths_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_pooling_finite [hPre_pooling_finite : Cert.Pre_pooling_finite.Facts] (m : (ℓ : Loc Cert.KernelIdeal.nD Cert.KernelIdeal.τ Cert.KernelIdeal.sig) → Buf (Elt Ideal) ℓ) : Prop :=
  ∀ c : Dev Cert.KernelIdeal.nD,
    (Cert.Pre_pooling_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_pooling_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.1 = (fun _ => 1#1)
    ∧ (Cert.Pre_pooling_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pooling_finite [hPre_pooling_finite : Cert.Pre_pooling_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pooling_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_pooling_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.1 = (fun _ => 1#1)
    ∧ (Cert.Pre_pooling_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2.2 = (fun _ => 1#1)

def quiescent_Kernel [hKernel : Cert.Kernel.Facts] [hPre_lengths_in_range : Cert.Pre_lengths_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_lengths_in_range : Cert.Pre_lengths_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pooling_finite [hKernelIdeal : Cert.KernelIdeal.Facts] [hPre_pooling_finite : Cert.Pre_pooling_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pooling_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pooling_finite [hReferenceIdeal : Cert.ReferenceIdeal.Facts] [hPre_pooling_finite : Cert.Pre_pooling_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pooling_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_pooling_finite [hKernelIdeal : Cert.KernelIdeal.Facts] [hReferenceIdeal : Cert.ReferenceIdeal.Facts] [hPre_pooling_finite : Cert.Pre_pooling_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pooling_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_lengths_in_range : Cert.Pre_lengths_in_range.Facts) (hPre_pooling_finite : Cert.Pre_pooling_finite.Facts),
    quiescent_Kernel (hKernel := hKernel) (hPre_lengths_in_range := hPre_lengths_in_range)
    ∧ quiescent_KernelIdeal (hKernelIdeal := hKernelIdeal) (hPre_lengths_in_range := hPre_lengths_in_range)
    ∧ quiescent_KernelIdeal_pre_pooling_finite (hKernelIdeal := hKernelIdeal) (hPre_pooling_finite := hPre_pooling_finite)
    ∧ quiescent_ReferenceIdeal (hReferenceIdeal := hReferenceIdeal)
    ∧ quiescent_ReferenceIdeal_pre_pooling_finite (hReferenceIdeal := hReferenceIdeal) (hPre_pooling_finite := hPre_pooling_finite)
    ∧ preserves_Kernel_KernelIdeal
    ∧ algebraic_KernelIdeal_ReferenceIdeal_pre_pooling_finite (hKernelIdeal := hKernelIdeal) (hReferenceIdeal := hReferenceIdeal) (hPre_pooling_finite := hPre_pooling_finite)
-- ==== Pre_lengths_in_range.lean ====
abbrev S16x1024 : Shape := ⟨2, ![16, 1024]⟩
abbrev S16x2048x1024 : Shape := ⟨3, ![16, 2048, 1024]⟩
abbrev S16 : Shape := ⟨1, ![16]⟩
abbrev S256x1024 : Shape := ⟨2, ![256, 1024]⟩
abbrev S256 : Shape := ⟨1, ![256]⟩
abbrev S1024x7168 : Shape := ⟨2, ![1024, 7168]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S16 : S_.BroadcastsInDim S16 (![] : Fin 0 → Fin S16.rank)

variable [Facts]

def fn {F : FTy → Type} [FloatOps F] (main_arg0 : FVec F S16x1024 .f32) (main_arg1 : FVec F S16x2048x1024 .f32) (main_arg2 : IVec S16 32) (main_arg3 : FVec F S256x1024 .f32) (main_arg4 : FVec F S256 .f32) (main_arg5 : FVec F S1024x7168 .f32) (main_arg6 : FVec F S1024 .f32) (main_arg7 : FVec F S2x1024 .f32) (main_arg8 : FVec F S2 .f32) : IVec S16 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 2048#32
  let main_v2 : IVec S16 32 := broadcastInDim S16 ![] bcast_S_S16 main_c_0
  let main_v3 : IVec S16 1 := cmpi .sle main_arg2 main_v2
  let main_v4 : IVec S16 1 := andi main_v1 main_v3
  main_v4
-- ==== Pre_pooling_finite.lean ====
abbrev S16x1024 : Shape := ⟨2, ![16, 1024]⟩
abbrev S16x2048x1024 : Shape := ⟨3, ![16, 2048, 1024]⟩
abbrev S16 : Shape := ⟨1, ![16]⟩
abbrev S256x1024 : Shape := ⟨2, ![256, 1024]⟩
abbrev S256 : Shape := ⟨1, ![256]⟩
abbrev S1024x7168 : Shape := ⟨2, ![1024, 7168]⟩
abbrev S1024 : Shape := ⟨1, ![1024]⟩
abbrev S2x1024 : Shape := ⟨2, ![2, 1024]⟩
abbrev S2 : Shape := ⟨1, ![2]⟩
abbrev S_ : Shape := ⟨0, ![]⟩

class Facts : Prop where
  bcast_S_S16 : S_.BroadcastsInDim S16 (![] : Fin 0 → Fin S16.rank)
  bcast_S_S16x2048x1024 : S_.BroadcastsInDim S16x2048x1024 (![] : Fin 0 → Fin S16x2048x1024.rank)
  bcast_S_S256x1024 : S_.BroadcastsInDim S256x1024 (![] : Fin 0 → Fin S256x1024.rank)

variable [Facts]

def fn {F : FTy → Type} [FloatOps F] (main_arg0 : FVec F S16x1024 .f32) (main_arg1 : FVec F S16x2048x1024 .f32) (main_arg2 : IVec S16 32) (main_arg3 : FVec F S256x1024 .f32) (main_arg4 : FVec F S256 .f32) (main_arg5 : FVec F S1024x7168 .f32) (main_arg6 : FVec F S1024 .f32) (main_arg7 : FVec F S2x1024 .f32) (main_arg8 : FVec F S2 .f32) : IVec S16 1 × IVec S16x2048x1024 1 × IVec S256x1024 1 :=
  let main_c : IVec S_ 32 := constantI S_ 32 0#32
  let main_v0 : IVec S16 32 := broadcastInDim S16 ![] bcast_S_S16 main_c
  let main_v1 : IVec S16 1 := cmpi .sge main_arg2 main_v0
  let main_c_0 : IVec S_ 32 := constantI S_ 32 2048#32
  let main_v2 : IVec S16 32 := broadcastInDim S16 ![] bcast_S_S16 main_c_0
  let main_v3 : IVec S16 1 := cmpi .sle main_arg2 main_v2
  let main_v4 : IVec S16 1 := andi main_v1 main_v3
  let main_v5 : FVec F S16x2048x1024 .f32 := Host.absf main_arg1
  let main_cst : FVec F S_ .f32 := constant S_ .f32 0x7F800000#32
  let main_v6 : FVec F S16x2048x1024 .f32 := broadcastInDim S16x2048x1024 ![] bcast_S_S16x2048x1024 main_cst
  let main_v7 : IVec S16x2048x1024 1 := cmpf .olt main_v5 main_v6
  let main_v8 : FVec F S256x1024 .f32 := Host.absf main_arg3
  let main_cst_1 : FVec F S_ .f32 := constant S_ .f32 0x7F800000#32
  let main_v9 : FVec F S256x1024 .f32 := broadcastInDim S256x1024 ![] bcast_S_S256x1024 main_cst_1
  let main_v10 : IVec S256x1024 1 := cmpf .olt main_v8 main_v9
  (main_v4, main_v7, main_v10)
-- ==== Kernel.lean ====
abbrev S16x1024 : Shape := ⟨2, ![16, 1024]⟩
abbrev S16x2048x1024 : Shape := ⟨3, ![16, 2048, 1024]⟩
abbrev S16 : Shape := ⟨1, ![16]⟩
abbrev S256x1024 : Shape := ⟨2, ![256, 1024]⟩
abbrev S256 : Shape := ⟨1, ![256]⟩
abbrev S1024x7168 : Shape := ⟨2, ![1024, 7168]⟩
abbrev S1024 : Shape := ⟨1, ![1024]⟩
abbrev S2x1024 : Shape := ⟨2, ![2, 1024]⟩
abbrev S2 : Shape := ⟨1, ![2]⟩
abbrev S1x256 : Shape := ⟨2, ![1, 256]⟩
abbrev S16x24x256 : Shape := ⟨3, ![16, 24, 256]⟩
abbrev S8x256x1024 : Shape := ⟨3, ![8, 256, 1024]⟩
abbrev S8 : Shape := ⟨1, ![8]⟩
abbrev S24x1024 : Shape := ⟨2, ![24, 1024]⟩
abbrev S24x1 : Shape := ⟨2, ![24, 1]⟩
abbrev S1 : Shape := ⟨1, ![1]⟩
abbrev S_ : Shape := ⟨0, ![]⟩
abbrev S1x256x1024 : Shape := ⟨3, ![1, 256, 1024]⟩
abbrev S24x256 : Shape := ⟨2, ![24, 256]⟩
abbrev S1x24x256 : Shape := ⟨3, ![1, 24, 256]⟩
abbrev S16x6144 : Shape := ⟨2, ![16, 6144]⟩
abbrev S16x7168 : Shape := ⟨2, ![16, 7168]⟩
abbrev S1x1024 : Shape := ⟨2, ![1, 1024]⟩
abbrev S1x2 : Shape := ⟨2, ![1, 2]⟩
abbrev S16x2 : Shape := ⟨2, ![16, 2]⟩
abbrev S16x1792 : Shape := ⟨2, ![16, 1792]⟩
abbrev S1024x1792 : Shape := ⟨2, ![1024, 1792]⟩

abbrev nBuf : Space → Nat
  | .hbm => 15
  | .vmem => 14
  | .smem => 1
  | _ => 0

abbrev bufTy : (tb : Table) → Fin (tcTables nBuf tb) → BufTy
  | .hbm, ⟨0, _⟩ => ⟨S16x1024, .f32⟩
  | .hbm, ⟨1, _⟩ => ⟨S16x2048x1024, .f32⟩
  | .hbm, ⟨2, _⟩ => ⟨S256x1024, .f32⟩
  | .hbm, ⟨3, _⟩ => ⟨S256, .f32⟩
  | .hbm, ⟨4, _⟩ => ⟨S1024x7168, .f32⟩
  | .hbm, ⟨5, _⟩ => ⟨S1024, .f32⟩
  | .hbm, ⟨6, _⟩ => ⟨S2x1024, .f32⟩
  | .hbm, ⟨7, _⟩ => ⟨S2, .f32⟩
  | .hbm, ⟨8, _⟩ => ⟨S1x256, .f32⟩
  | .hbm, ⟨9, _⟩ => ⟨S16x24x256, .f32⟩
  | .hbm, ⟨10, _⟩ => ⟨S16x6144, .f32⟩
  | .hbm, ⟨11, _⟩ => ⟨S16x7168, .f32⟩
  | .hbm, ⟨12, _⟩ => ⟨S1x1024, .f32⟩
  | .hbm, ⟨13, _⟩ => ⟨S1x2, .f32⟩
  | .hbm, ⟨14, _⟩ => ⟨S16x2, .f32⟩
  | .local _ .vmem, ⟨0, _⟩ => ⟨S256x1024, .f32⟩
  | .local _ .vmem, ⟨1, _⟩ => ⟨S1x256, .f32⟩
  | .local _ .vmem, ⟨2, _⟩ => ⟨S16x24x256, .f32⟩
  | .local _ .vmem, ⟨3, _⟩ => ⟨S8x256x1024, .f32⟩
  | .local _ .vmem, ⟨4, _⟩ => ⟨S24x1024, .f32⟩
  | .local _ .vmem, ⟨5, _⟩ => ⟨S16x1792, .f32⟩
  | .local _ .vmem, ⟨6, _⟩ => ⟨S16x1792, .f32⟩
  | .local _ .vmem, ⟨7, _⟩ => ⟨S1024x1792, .f32⟩
  | .local _ .vmem, ⟨8, _⟩ => ⟨S1024x1792, .f32⟩
  | .local _ .vmem, ⟨9, _⟩ => ⟨S1x1024, .f32⟩
  | .local _ .vmem, ⟨10, _⟩ => ⟨S2x1024, .f32⟩
  | .local _ .vmem, ⟨11, _⟩ => ⟨S1x2, .f32⟩
  | .local _ .vmem, ⟨12, _⟩ => ⟨S16x2, .f32⟩
  | .local _ .vmem, ⟨13, _⟩ => ⟨S16x1024, .f32⟩
  | .local _ .smem, ⟨0, _⟩ => ⟨S16, .i32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_arg7 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch2 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_scratch0 : Ref sig .tc := ⟨.vmem, 13, rfl⟩
abbrev cc0_sem0_0 : DmaSem sig := 0
abbrev cc0_sem1_0 : DmaSem sig := 1
abbrev cc0_sem2_0 : DmaSem sig := 2
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

@[reducible] def k0_t1_loop : Scf.Loop 32 :=
  let c0_i32 : BitVec 32 := 0#32
  let c16_i32 : BitVec 32 := 16#32
  let v1 : BitVec 32 := Scalar.addi c0_i32 c16_i32
  let c1_i32 : BitVec 32 := 1#32
  ⟨c0_i32, v1, c1_i32⟩
def k0_off1 (k0_t1 : Fin k0_t1_loop.trips) : Fin 1 → Nat :=
  let c0_i32 : BitVec 32 := 0#32
  let c1_i32 : BitVec 32 := 1#32
  let arg9 : BitVec 32 := Scf.iv c0_i32 c1_i32 k0_t1
  let v2 : Index := Scalar.indexCast arg9
  ![v2.toNat]
@[reducible] def k0_t2_loop (v3 : BitVec 32) : Scf.Loop 32 :=
  let c0_i32_10 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let c8_i32 : BitVec 32 := 8#32
  let v32 : BitVec 32 := Scalar.minsi v31 c8_i32
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_12 : BitVec 32 := 1#32
  ⟨c0_i32_10, v37, c1_i32_12⟩

def k0_off2 (v3 : BitVec 32) (k0_t2 : Fin (k0_t2_loop v3).trips) : Fin 1 → Nat :=
  let c0_i32_10 : BitVec 32 := 0#32
  let c1_i32_12 : BitVec 32 := 1#32
  let arg10 : BitVec 32 := Scf.iv c0_i32_10 c1_i32_12 k0_t2
  let c8_i32_31 : BitVec 32 := 8#32
  let v72 : BitVec 32 := Scalar.remsi arg10 c8_i32_31
  ![v72.toNat]
def k0_off3 (v3 : BitVec 32) (k0_t2 : Fin (k0_t2_loop v3).trips) : Fin 3 → Nat :=
  let c0_i32_10 : BitVec 32 := 0#32
  let c1_i32_12 : BitVec 32 := 1#32
  let arg10 : BitVec 32 := Scf.iv c0_i32_10 c1_i32_12 k0_t2
  let c8_i32_31 : BitVec 32 := 8#32
  let v72 : BitVec 32 := Scalar.remsi arg10 c8_i32_31
  let c0_i32_33 : BitVec 32 := 0#32
  let c0_i32_34 : BitVec 32 := 0#32
  ![v72.toNat, 0, 0]
def k0_off4 (k0_t1 : Fin k0_t1_loop.trips) (v3 : BitVec 32) (k0_t2 : Fin (k0_t2_loop v3).trips) : Fin 3 → Nat :=
  let c0_i32 : BitVec 32 := 0#32
  let c1_i32 : BitVec 32 := 1#32
  let arg9 : BitVec 32 := Scf.iv c0_i32 c1_i32 k0_t1
  let c0_i32_10 : BitVec 32 := 0#32
  let c1_i32_12 : BitVec 32 := 1#32
  let arg10 : BitVec 32 := Scf.iv c0_i32_10 c1_i32_12 k0_t2
  let c256_i32_32 : BitVec 32 := 256#32
  let v73 : BitVec 32 := Scalar.muli arg10 c256_i32_32
  let c0_i32_35 : BitVec 32 := 0#32
  ![arg9.toNat, v73.toNat, 0]
@[reducible] def k0_t3_loop (v3 : BitVec 32) : Scf.Loop 32 :=
  let c0_i32_10 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let c8_i32 : BitVec 32 := 8#32
  let v32 : BitVec 32 := Scalar.minsi v31 c8_i32
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let v34 : BitVec 32 := Scalar.addi c0_i32_10 v33
  let c1_i32_13 : BitVec 32 := 1#32
  ⟨v37, v34, c1_i32_13⟩
def k0_off5 (v3 : BitVec 32) (k0_t3 : Fin (k0_t3_loop v3).trips) : Fin 1 → Nat :=
  let c0_i32_10 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let c8_i32 : BitVec 32 := 8#32
  let v32 : BitVec 32 := Scalar.minsi v31 c8_i32
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg10 : BitVec 32 := Scf.iv v37 c1_i32_13 k0_t3
  let c8_i32_31 : BitVec 32 := 8#32
  let v72 : BitVec 32 := Scalar.remsi arg10 c8_i32_31
  ![v72.toNat]
def k0_off6 (v3 : BitVec 32) (k0_t3 : Fin (k0_t3_loop v3).trips) : Fin 3 → Nat :=
  let c0_i32_10 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let c8_i32 : BitVec 32 := 8#32
  let v32 : BitVec 32 := Scalar.minsi v31 c8_i32
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg10 : BitVec 32 := Scf.iv v37 c1_i32_13 k0_t3
  let c8_i32_31 : BitVec 32 := 8#32
  let v72 : BitVec 32 := Scalar.remsi arg10 c8_i32_31
  let c0_i32_33 : BitVec 32 := 0#32
  let c0_i32_34 : BitVec 32 := 0#32
  ![v72.toNat, 0, 0]
def k0_off7 (k0_t1 : Fin k0_t1_loop.trips) (v3 : BitVec 32) (k0_t3 : Fin (k0_t3_loop v3).trips) : Fin 3 → Nat :=
  let c0_i32 : BitVec 32 := 0#32
  let c1_i32 : BitVec 32 := 1#32
  let arg9 : BitVec 32 := Scf.iv c0_i32 c1_i32 k0_t1
  let c0_i32_10 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let c8_i32 : BitVec 32 := 8#32
  let v32 : BitVec 32 := Scalar.minsi v31 c8_i32
  let v33 : BitVec 32 := Scalar.subi v32 c0_i32_10
  let c1_i32_11 : BitVec 32 := 1#32
  let v35 : BitVec 32 := Scalar.divsi v33 c1_i32_11
  let v36 : BitVec 32 := Scalar.muli v35 c1_i32_11
  let v37 : BitVec 32 := Scalar.addi c0_i32_10 v36
  let c1_i32_13 : BitVec 32 := 1#32
  let arg10 : BitVec 32 := Scf.iv v37 c1_i32_13 k0_t3
  let c256_i32_32 : BitVec 32 := 256#32
  let v73 : BitVec 32 := Scalar.muli arg10 c256_i32_32
  let c0_i32_35 : BitVec 32 := 0#32
  ![arg9.toNat, v73.toNat, 0]
@[reducible] def k0_t4_loop (v3 : BitVec 32) : Scf.Loop 32 :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_18 : BitVec 32 := 1#32
  ⟨c0_i32_16, v46, c1_i32_18⟩
def k0_off8 (v3 : BitVec 32) (k0_t4 : Fin (k0_t4_loop v3).trips) : Fin 1 → Nat :=
  let c0_i32_16 : BitVec 32 := 0#32
  let c1_i32_18 : BitVec 32 := 1#32
  let arg10 : BitVec 32 := Scf.iv c0_i32_16 c1_i32_18 k0_t4
  let c8_i32_31 : BitVec 32 := 8#32
  let v72 : BitVec 32 := Scalar.remsi arg10 c8_i32_31
  ![v72.toNat]
def k0_off9 (v3 : BitVec 32) (k0_t4 : Fin (k0_t4_loop v3).trips) : Fin 3 → Nat :=
  let c0_i32_16 : BitVec 32 := 0#32
  let c1_i32_18 : BitVec 32 := 1#32
  let arg10 : BitVec 32 := Scf.iv c0_i32_16 c1_i32_18 k0_t4
  let c8_i32_31 : BitVec 32 := 8#32
  let v72 : BitVec 32 := Scalar.remsi arg10 c8_i32_31
  let c0_i32_33 : BitVec 32 := 0#32
  let c0_i32_34 : BitVec 32 := 0#32
  ![v72.toNat, 0, 0]
def k0_off10 (k0_t1 : Fin k0_t1_loop.trips) (v3 : BitVec 32) (k0_t4 : Fin (k0_t4_loop v3).trips) : Fin 3 → Nat :=
  let c0_i32 : BitVec 32 := 0#32
  let c1_i32 : BitVec 32 := 1#32
  let arg9 : BitVec 32 := Scf.iv c0_i32 c1_i32 k0_t1
  let c0_i32_16 : BitVec 32 := 0#32
  let c1_i32_18 : BitVec 32 := 1#32
  let arg10 : BitVec 32 := Scf.iv c0_i32_16 c1_i32_18 k0_t4
  let c256_i32_32 : BitVec 32 := 256#32
  let v73 : BitVec 32 := Scalar.muli arg10 c256_i32_32
  let c0_i32_35 : BitVec 32 := 0#32
  ![arg9.toNat, v73.toNat, 0]
def k0_off11 (v3 : BitVec 32) (k0_t4 : Fin (k0_t4_loop v3).trips) : Fin 3 → Nat :=
  let c0_i32_16 : BitVec 32 := 0#32
  let c1_i32_18 : BitVec 32 := 1#32
  let arg10 : BitVec 32 := Scf.iv c0_i32_16 c1_i32_18 k0_t4
  let c8_i32_31 : BitVec 32 := 8#32
  let v72 : BitVec 32 := Scalar.remsi arg10 c8_i32_31
  let v93 : Index := Scalar.indexCast v72
  let c0_39 : Index := 0#32
  let c0_40 : Index := 0#32
  ![v93.toNat, 0, 0]
def k0_off12 (v3 : BitVec 32) (k0_t4 : Fin (k0_t4_loop v3).trips) : Fin 1 → Nat :=
  let c0_i32_16 : BitVec 32 := 0#32
  let c1_i32_18 : BitVec 32 := 1#32
  let arg10 : BitVec 32 := Scf.iv c0_i32_16 c1_i32_18 k0_t4
  let c8_i32_31 : BitVec 32 := 8#32
  let v72 : BitVec 32 := Scalar.remsi arg10 c8_i32_31
  ![v72.toNat]
def k0_cond1 (v3 : BitVec 32) (k0_t4 : Fin (k0_t4_loop v3).trips) : BitVec 1 :=
  let c0_i32_16 : BitVec 32 := 0#32
  let c1_i32_18 : BitVec 32 := 1#32
  let arg10 : BitVec 32 := Scf.iv c0_i32_16 c1_i32_18 k0_t4
  let c8_i32_44 : BitVec 32 := 8#32
  let v102 : BitVec 32 := Scalar.addi arg10 c8_i32_44
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v103 : BitVec 1 := Scalar.cmpi .slt v102 v31
  let v104 : BitVec 32 := Scalar.extui v103
  let c0_i32_45 : BitVec 32 := 0#32
  let v105 : BitVec 1 := Scalar.cmpi .ne v104 c0_i32_45
  v105

def k0_off13 (v3 : BitVec 32) (k0_t4 : Fin (k0_t4_loop v3).trips) : Fin 3 → Nat :=
  let c0_i32_16 : BitVec 32 := 0#32
  let c1_i32_18 : BitVec 32 := 1#32
  let arg10 : BitVec 32 := Scf.iv c0_i32_16 c1_i32_18 k0_t4
  let c8_i32_31 : BitVec 32 := 8#32
  let v72 : BitVec 32 := Scalar.remsi arg10 c8_i32_31
  let c0_i32_48 : BitVec 32 := 0#32
  let c0_i32_49 : BitVec 32 := 0#32
  ![v72.toNat, 0, 0]
def k0_off14 (k0_t1 : Fin k0_t1_loop.trips) (v3 : BitVec 32) (k0_t4 : Fin (k0_t4_loop v3).trips) : Fin 3 → Nat :=
  let c0_i32 : BitVec 32 := 0#32
  let c1_i32 : BitVec 32 := 1#32
  let arg9 : BitVec 32 := Scf.iv c0_i32 c1_i32 k0_t1
  let c0_i32_16 : BitVec 32 := 0#32
  let c1_i32_18 : BitVec 32 := 1#32
  let arg10 : BitVec 32 := Scf.iv c0_i32_16 c1_i32_18 k0_t4
  let c8_i32_46 : BitVec 32 := 8#32
  let v106 : BitVec 32 := Scalar.addi arg10 c8_i32_46
  let c256_i32_47 : BitVec 32 := 256#32
  let v107 : BitVec 32 := Scalar.muli v106 c256_i32_47
  let c0_i32_50 : BitVec 32 := 0#32
  ![arg9.toNat, v107.toNat, 0]
@[reducible] def k0_t5_loop (v3 : BitVec 32) : Scf.Loop 32 :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let v43 : BitVec 32 := Scalar.addi c0_i32_16 v42
  let c1_i32_19 : BitVec 32 := 1#32
  ⟨v46, v43, c1_i32_19⟩
def k0_off15 (v3 : BitVec 32) (k0_t5 : Fin (k0_t5_loop v3).trips) : Fin 1 → Nat :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_31 : BitVec 32 := 8#32
  let v72 : BitVec 32 := Scalar.remsi arg10 c8_i32_31
  ![v72.toNat]
def k0_off16 (v3 : BitVec 32) (k0_t5 : Fin (k0_t5_loop v3).trips) : Fin 3 → Nat :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_31 : BitVec 32 := 8#32
  let v72 : BitVec 32 := Scalar.remsi arg10 c8_i32_31
  let c0_i32_33 : BitVec 32 := 0#32
  let c0_i32_34 : BitVec 32 := 0#32
  ![v72.toNat, 0, 0]
def k0_off17 (k0_t1 : Fin k0_t1_loop.trips) (v3 : BitVec 32) (k0_t5 : Fin (k0_t5_loop v3).trips) : Fin 3 → Nat :=
  let c0_i32 : BitVec 32 := 0#32
  let c1_i32 : BitVec 32 := 1#32
  let arg9 : BitVec 32 := Scf.iv c0_i32 c1_i32 k0_t1
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c256_i32_32 : BitVec 32 := 256#32
  let v73 : BitVec 32 := Scalar.muli arg10 c256_i32_32
  let c0_i32_35 : BitVec 32 := 0#32
  ![arg9.toNat, v73.toNat, 0]
def k0_off18 (v3 : BitVec 32) (k0_t5 : Fin (k0_t5_loop v3).trips) : Fin 3 → Nat :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_31 : BitVec 32 := 8#32
  let v72 : BitVec 32 := Scalar.remsi arg10 c8_i32_31
  let v93 : Index := Scalar.indexCast v72
  let c0_39 : Index := 0#32
  let c0_40 : Index := 0#32
  ![v93.toNat, 0, 0]
def k0_off19 (v3 : BitVec 32) (k0_t5 : Fin (k0_t5_loop v3).trips) : Fin 1 → Nat :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_31 : BitVec 32 := 8#32
  let v72 : BitVec 32 := Scalar.remsi arg10 c8_i32_31
  ![v72.toNat]
def k0_cond2 (v3 : BitVec 32) (k0_t5 : Fin (k0_t5_loop v3).trips) : BitVec 1 :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_44 : BitVec 32 := 8#32
  let v102 : BitVec 32 := Scalar.addi arg10 c8_i32_44
  let v103 : BitVec 1 := Scalar.cmpi .slt v102 v31
  let v104 : BitVec 32 := Scalar.extui v103
  let c0_i32_45 : BitVec 32 := 0#32
  let v105 : BitVec 1 := Scalar.cmpi .ne v104 c0_i32_45
  v105

def k0_off20 (v3 : BitVec 32) (k0_t5 : Fin (k0_t5_loop v3).trips) : Fin 3 → Nat :=
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_31 : BitVec 32 := 8#32
  let v72 : BitVec 32 := Scalar.remsi arg10 c8_i32_31
  let c0_i32_48 : BitVec 32 := 0#32
  let c0_i32_49 : BitVec 32 := 0#32
  ![v72.toNat, 0, 0]
def k0_off21 (k0_t1 : Fin k0_t1_loop.trips) (v3 : BitVec 32) (k0_t5 : Fin (k0_t5_loop v3).trips) : Fin 3 → Nat :=
  let c0_i32 : BitVec 32 := 0#32
  let c1_i32 : BitVec 32 := 1#32
  let arg9 : BitVec 32 := Scf.iv c0_i32 c1_i32 k0_t1
  let c0_i32_16 : BitVec 32 := 0#32
  let c24_i32_8 : BitVec 32 := 24#32
  let c0_i32_1 : BitVec 32 := 0#32
  let v5 : BitVec 1 := Scalar.cmpi .sgt v3 c0_i32_1
  let v6 : BitVec 32 := Scalar.extui v5
  let c0_i32_2 : BitVec 32 := 0#32
  let v7 : BitVec 1 := Scalar.cmpi .slt v3 c0_i32_2
  let v8 : BitVec 32 := Scalar.extui v7
  let v9 : BitVec 32 := Scalar.subi v6 v8
  let c24_i32 : BitVec 32 := 24#32
  let c0_i32_3 : BitVec 32 := 0#32
  let v10 : BitVec 1 := Scalar.cmpi .sgt c24_i32 c0_i32_3
  let v11 : BitVec 32 := Scalar.extui v10
  let c0_i32_4 : BitVec 32 := 0#32
  let v12 : BitVec 1 := Scalar.cmpi .slt c24_i32 c0_i32_4
  let v13 : BitVec 32 := Scalar.extui v12
  let v14 : BitVec 32 := Scalar.subi v11 v13
  let v15 : BitVec 1 := Scalar.cmpi .ne v9 v14
  let v16 : BitVec 32 := Scalar.remsi v3 c24_i32
  let c0_i32_5 : BitVec 32 := 0#32
  let v17 : BitVec 1 := Scalar.cmpi .ne v16 c0_i32_5
  let v18 : BitVec 1 := Scalar.andi v15 v17
  let v4 : BitVec 32 := Scalar.divsi v3 c24_i32
  let c1_i32_6 : BitVec 32 := 1#32
  let v19 : BitVec 32 := Scalar.subi v4 c1_i32_6
  let v20 : BitVec 32 := Scalar.select v18 v19 v4
  let c1_i32_7 : BitVec 32 := 1#32
  let v21 : BitVec 32 := Scalar.maxsi v20 c1_i32_7
  let v28 : BitVec 32 := Scalar.muli c24_i32_8 v21
  let v29 : BitVec 32 := Scalar.minsi v28 v3
  let c255_i32 : BitVec 32 := 255#32
  let v30 : BitVec 32 := Scalar.addi v29 c255_i32
  let c256_i32 : BitVec 32 := 256#32
  let v31 : BitVec 32 := Scalar.divsi v30 c256_i32
  let v42 : BitVec 32 := Scalar.subi v31 c0_i32_16
  let c1_i32_17 : BitVec 32 := 1#32
  let v44 : BitVec 32 := Scalar.divsi v42 c1_i32_17
  let v45 : BitVec 32 := Scalar.muli v44 c1_i32_17
  let v46 : BitVec 32 := Scalar.addi c0_i32_16 v45
  let c1_i32_19 : BitVec 32 := 1#32
  let arg10 : BitVec 32 := Scf.iv v46 c1_i32_19 k0_t5
  let c8_i32_46 : BitVec 32 := 8#32
  let v106 : BitVec 32 := Scalar.addi arg10 c8_i32_46
  let c256_i32_47 : BitVec 32 := 256#32
  let v107 : BitVec 32 := Scalar.muli v106 c256_i32_47
  let c0_i32_50 : BitVec 32 := 0#32
  ![arg9.toNat, v107.toNat, 0]

def k0_chk1 (k0_t1 : Fin k0_t1_loop.trips) (v3 : BitVec 32) : Prop :=
  ((k0_t2_loop v3).OK) ∧
  (∀ k0_t2 : Fin (k0_t2_loop v3).trips, ∀ a, (k0_off2 v3 k0_t2) a + S1.size a ≤ S8.size a) ∧
  (∀ k0_t2 : Fin (k0_t2_loop v3).trips, ∀ a, (k0_off3 v3 k0_t2) a + S1x256x1024.size a ≤ S8x256x1024.size a) ∧
  (∀ k0_t2 : Fin (k0_t2_loop v3).trips, ∀ a, (k0_off4 k0_t1 v3 k0_t2) a + S1x256x1024.size a ≤ S16x2048x1024.size a) ∧
  ((k0_t3_loop v3).OK) ∧
  (∀ k0_t3 : Fin (k0_t3_loop v3).trips, ∀ a, (k0_off5 v3 k0_t3) a + S1.size a ≤ S8.size a) ∧
  (∀ k0_t3 : Fin (k0_t3_loop v3).trips, ∀ a, (k0_off6 v3 k0_t3) a + S1x256x1024.size a ≤ S8x256x1024.size a) ∧
  (∀ k0_t3 : Fin (k0_t3_loop v3).trips, ∀ a, (k0_off7 k0_t1 v3 k0_t3) a + S1x256x1024.size a ≤ S16x2048x1024.size a) ∧
  ((k0_t4_loop v3).OK) ∧
  (∀ k0_t4 : Fin (k0_t4_loop v3).trips, ∀ a, (k0_off8 v3 k0_t4) a + S1.size a ≤ S8.size a) ∧
  (∀ k0_t4 : Fin (k0_t4_loop v3).trips, ∀ a, (k0_off9 v3 k0_t4) a + S1x256x1024.size a ≤ S8x256x1024.size a) ∧
  (∀ k0_t4 : Fin (k0_t4_loop v3).trips, ∀ a, (k0_off10 k0_t1 v3 k0_t4) a + S1x256x1024.size a ≤ S16x2048x1024.size a) ∧
  (∀ k0_t4 : Fin (k0_t4_loop v3).trips, ∀ a, (k0_off11 v3 k0_t4) a + S1x256x1024.size a ≤ S8x256x1024.size a) ∧
  (∀ k0_t4 : Fin (k0_t4_loop v3).trips, ∀ (k0_h1 : k0_cond1 v3 k0_t4 = 1#1), ∀ a, (k0_off12 v3 k0_t4) a + S1.size a ≤ S8.size a) ∧
  (∀ k0_t4 : Fin (k0_t4_loop v3).trips, ∀ (k0_h1 : k0_cond1 v3 k0_t4 = 1#1), ∀ a, (k0_off13 v3 k0_t4) a + S1x256x1024.size a ≤ S8x256x1024.size a) ∧
  (∀ k0_t4 : Fin (k0_t4_loop v3).trips, ∀ (k0_h1 : k0_cond1 v3 k0_t4 = 1#1), ∀ a, (k0_off14 k0_t1 v3 k0_t4) a + S1x256x1024.size a ≤ S16x2048x1024.size a) ∧
  ((k0_t5_loop v3).OK) ∧
  (∀ k0_t5 : Fin (k0_t5_loop v3).trips, ∀ a, (k0_off15 v3 k0_t5) a + S1.size a ≤ S8.size a) ∧
  (∀ k0_t5 : Fin (k0_t5_loop v3).trips, ∀ a, (k0_off16 v3 k0_t5) a + S1x256x1024.size a ≤ S8x256x1024.size a) ∧
  (∀ k0_t5 : Fin (k0_t5_loop v3).trips, ∀ a, (k0_off17 k0_t1 v3 k0_t5) a + S1x256x1024.size a ≤ S16x2048x1024.size a) ∧
  (∀ k0_t5 : Fin (k0_t5_loop v3).trips, ∀ a, (k0_off18 v3 k0_t5) a + S1x256x1024.size a ≤ S8x256x1024.size a) ∧
  (∀ k0_t5 : Fin (k0_t5_loop v3).trips, ∀ (k0_h2 : k0_cond2 v3 k0_t5 = 1#1), ∀ a, (k0_off19 v3 k0_t5) a + S1.size a ≤ S8.size a) ∧
  (∀ k0_t5 : Fin (k0_t5_loop v3).trips, ∀ (k0_h2 : k0_cond2 v3 k0_t5 = 1#1), ∀ a, (k0_off20 v3 k0_t5) a + S1x256x1024.size a ≤ S8x256x1024.size a) ∧
  (∀ k0_t5 : Fin (k0_t5_loop v3).trips, ∀ (k0_h2 : k0_cond2 v3 k0_t5 = 1#1), ∀ a, (k0_off21 k0_t1 v3 k0_t5) a + S1x256x1024.size a ≤ S16x2048x1024.size a)
theorem k0_t2_ok : ∀ (k0_t1 : Fin k0_t1_loop.trips) (v3 : BitVec 32) (k0_hw1 : k0_chk1 k0_t1 v3), (k0_t2_loop v3).OK := fun k0_t1 v3 k0_hw1 => k0_hw1.1
theorem k0_off2_inb : ∀ (k0_t1 : Fin k0_t1_loop.trips) (v3 : BitVec 32) (k0_hw1 : k0_chk1 k0_t1 v3) (k0_t2 : Fin (k0_t2_loop v3).trips), ∀ a, (k0_off2 v3 k0_t2) a + S1.size a ≤ S8.size a := fun k0_t1 v3 k0_hw1 k0_t2 => k0_hw1.2.1 k0_t2
theorem k0_off3_inb : ∀ (k0_t1 : Fin k0_t1_loop.trips) (v3 : BitVec 32) (k0_hw1 : k0_chk1 k0_t1 v3) (k0_t2 : Fin (k0_t2_loop v3).trips), ∀ a, (k0_off3 v3 k0_t2) a + S1x256x1024.size a ≤ S8x256x1024.size a := fun k0_t1 v3 k0_hw1 k0_t2 => k0_hw1.2.2.1 k0_t2
theorem k0_off4_inb : ∀ (k0_t1 : Fin k0_t1_loop.trips) (v3 : BitVec 32) (k0_hw1 : k0_chk1 k0_t1 v3) (k0_t2 : Fin (k0_t2_loop v3).trips), ∀ a, (k0_off4 k0_t1 v3 k0_t2) a + S1x256x1024.size a ≤ S16x2048x1024.size a := fun k0_t1 v3 k0_hw1 k0_t2 => k0_hw1.2.2.2.1 k0_t2
theorem k0_t3_ok : ∀ (k0_t1 : Fin k0_t1_loop.trips) (v3 : BitVec 32) (k0_hw1 : k0_chk1 k0_t1 v3), (k0_t3_loop v3).OK := fun k0_t1 v3 k0_hw1 => k0_hw1.2.2.2.2.1
theorem k0_off5_inb : ∀ (k0_t1 : Fin k0_t1_loop.trips) (v3 : BitVec 32) (k0_hw1 : k0_chk1 k0_t1 v3) (k0_t3 : Fin (k0_t3_loop v3).trips), ∀ a, (k0_off5 v3 k0_t3) a + S1.size a ≤ S8.size a := fun k0_t1 v3 k0_hw1 k0_t3 => k0_hw1.2.2.2.2.2.1 k0_t3
theorem k0_off6_inb : ∀ (k0_t1 : Fin k0_t1_loop.trips) (v3 : BitVec 32) (k0_hw1 : k0_chk1 k0_t1 v3) (k0_t3 : Fin (k0_t3_loop v3).trips), ∀ a, (k0_off6 v3 k0_t3) a + S1x256x1024.size a ≤ S8x256x1024.size a := fun k0_t1 v3 k0_hw1 k0_t3 => k0_hw1.2.2.2.2.2.2.1 k0_t3
theorem k0_off7_inb : ∀ (k0_t1 : Fin k0_t1_loop.trips) (v3 : BitVec 32) (k0_hw1 : k0_chk1 k0_t1 v3) (k0_t3 : Fin (k0_t3_loop v3).trips), ∀ a, (k0_off7 k0_t1 v3 k0_t3) a + S1x256x1024.size a ≤ S16x2048x1024.size a := fun k0_t1 v3 k0_hw1 k0_t3 => k0_hw1.2.2.2.2.2.2.2.1 k0_t3
theorem k0_t4_ok : ∀ (k0_t1 : Fin k0_t1_loop.trips) (v3 : BitVec 32) (k0_hw1 : k0_chk1 k0_t1 v3), (k0_t4_loop v3).OK := fun k0_t1 v3 k0_hw1 => k0_hw1.2.2.2.2.2.2.2.2.1
theorem k0_off8_inb : ∀ (k0_t1 : Fin k0_t1_loop.trips) (v3 : BitVec 32) (k0_hw1 : k0_chk1 k0_t1 v3) (k0_t4 : Fin (k0_t4_loop v3).trips), ∀ a, (k0_off8 v3 k0_t4) a + S1.size a ≤ S8.size a := fun k0_t1 v3 k0_hw1 k0_t4 => k0_hw1.2.2.2.2.2.2.2.2.2.1 k0_t4
theorem k0_off9_inb : ∀ (k0_t1 : Fin k0_t1_loop.trips) (v3 : BitVec 32) (k0_hw1 : k0_chk1 k0_t1 v3) (k0_t4 : Fin (k0_t4_loop v3).trips), ∀ a, (k0_off9 v3 k0_t4) a + S1x256x1024.size a ≤ S8x256x1024.size a := fun k0_t1 v3 k0_hw1 k0_t4 => k0_hw1.2.2.2.2.2.2.2.2.2.2.1 k0_t4
theorem k0_off10_inb : ∀ (k0_t1 : Fin k0_t1_loop.trips) (v3 : BitVec 32) (k0_hw1 : k0_chk1 k0_t1 v3) (k0_t4 : Fin (k0_t4_loop v3).trips), ∀ a, (k0_off10 k0_t1 v3 k0_t4) a + S1x256x1024.size a ≤ S16x2048x1024.size a := fun k0_t1 v3 k0_hw1 k0_t4 => k0_hw1.2.2.2.2.2.2.2.2.2.2.2.1 k0_t4
theorem k0_off11_inb : ∀ (k0_t1 : Fin k0_t1_loop.trips) (v3 : BitVec 32) (k0_hw1 : k0_chk1 k0_t1 v3) (k0_t4 : Fin (k0_t4_loop v3).trips), ∀ a, (k0_off11 v3 k0_t4) a + S1x256x1024.size a ≤ S8x256x1024.size a := fun k0_t1 v3 k0_hw1 k0_t4 => k0_hw1.2.2.2.2.2.2.2.2.2.2.2.2.1 k0_t4
theorem k0_off12_inb : ∀ (k0_t1 : Fin k0_t1_loop.trips) (v3 : BitVec 32) (k0_hw1 : k0_chk1 k0_t1 v3) (k0_t4 : Fin (k0_t4_loop v3).trips), ∀ (k0_h1 : k0_cond1 v3 k0_t4 = 1#1), ∀ a, (k0_off12 v3 k0_t4) a + S1.size a ≤ S8.size a := fun k0_t1 v3 k0_hw1 k0_t4 k0_h1 => k0_hw1.2.2.2.2.2.2.2.2.2.2.2.2.2.1 k0_t4 k0_h1
theorem k0_off13_inb : ∀ (k0_t1 : Fin k0_t1_loop.trips) (v3 : BitVec 32) (k0_hw1 : k0_chk1 k0_t1 v3) (k0_t4 : Fin (k0_t4_loop v3).trips), ∀ (k0_h1 : k0_cond1 v3 k0_t4 = 1#1), ∀ a, (k0_off13 v3 k0_t4) a + S1x256x1024.size a ≤ S8x256x1024.size a := fun k0_t1 v3 k0_hw1 k0_t4 k0_h1 => k0_hw1.2.2.2.2.2.2.2.2.2.2.2.2.2.2.1 k0_t4 k0_h1
theorem k0_off14_inb : ∀ (k0_t1 : Fin k0_t1_loop.trips) (v3 : BitVec 32) (k0_hw1 : k0_chk1 k0_t1 v3) (k0_t4 : Fin (k0_t4_loop v3).trips), ∀ (k0_h1 : k0_cond1 v3 k0_t4 = 1#1), ∀ a, (k0_off14 k0_t1 v3 k0_t4) a + S1x256x1024.size a ≤ S16x2048x1024.size a := fun k0_t1 v3 k0_hw1 k0_t4 k0_h1 => k0_hw1.2.2.2.2.2.2.2.2.2.2.2.2.2.2.2.1 k0_t4 k0_h1
theorem k0_t5_ok : ∀ (k0_t1 : Fin k0_t1_loop.trips) (v3 : BitVec 32) (k0_hw1 : k0_chk1 k0_t1 v3), (k0_t5_loop v3).OK := fun k0_t1 v3 k0_hw1 => k0_hw1.2.2.2.2.2.2.2.2.2.2.2.2.2.2.2.2.1
theorem k0_off15_inb : ∀ (k0_t1 : Fin k0_t1_loop.trips) (v3 : BitVec 32) (k0_hw1 : k0_chk1 k0_t1 v3) (k0_t5 : Fin (k0_t5_loop v3).trips), ∀ a, (k0_off15 v3 k0_t5) a + S1.size a ≤ S8.size a := fun k0_t1 v3 k0_hw1 k0_t5 => k0_hw1.2.2.2.2.2.2.2.2.2.2.2.2.2.2.2.2.2.1 k0_t5
theorem k0_off16_inb : ∀ (k0_t1 : Fin k0_t1_loop.trips) (v3 : BitVec 32) (k0_hw1 : k0_chk1 k0_t1 v3) (k0_t5 : Fin (k0_t5_loop v3).trips), ∀ a, (k0_off16 v3 k0_t5) a + S1x256x1024.size a ≤ S8x256x1024.size a := fun k0_t1 v3 k0_hw1 k0_t5 => k0_hw1.2.2.2.2.2.2.2.2.2.2.2.2.2.2.2.2.2.2.1 k0_t5
theorem k0_off17_inb : ∀ (k0_t1 : Fin k0_t1_loop.trips) (v3 : BitVec 32) (k0_hw1 : k0_chk1 k0_t1 v3) (k0_t5 : Fin (k0_t5_loop v3).trips), ∀ a, (k0_off17 k0_t1 v3 k0_t5) a + S1x256x1024.size a ≤ S16x2048x1024.size a := fun k0_t1 v3 k0_hw1 k0_t5 => k0_hw1.2.2.2.2.2.2.2.2.2.2.2.2.2.2.2.2.2.2.2.1 k0_t5
theorem k0_off18_inb : ∀ (k0_t1 : Fin k0_t1_loop.trips) (v3 : BitVec 32) (k0_hw1 : k0_chk1 k0_t1 v3) (k0_t5 : Fin (k0_t5_loop v3).trips), ∀ a, (k0_off18 v3 k0_t5) a + S1x256x1024.size a ≤ S8x256x1024.size a := fun k0_t1 v3 k0_hw1 k0_t5 => k0_hw1.2.2.2.2.2.2.2.2.2.2.2.2.2.2.2.2.2.2.2.2.1 k0_t5
theorem k0_off19_inb : ∀ (k0_t1 : Fin k0_t1_loop.trips) (v3 : BitVec 32) (k0_hw1 : k0_chk1 k0_t1 v3) (k0_t5 : Fin (k0_t5_loop v3).trips), ∀ (k0_h2 : k0_cond2 v3 k0_t5 = 1#1), ∀ a, (k0_off19 v3 k0_t5) a + S1.size a ≤ S8.size a := fun k0_t1 v3 k0_hw1 k0_t5 k0_h2 => k0_hw1.2.2.2.2.2.2.2.2.2.2.2.2.2.2.2.2.2.2.2.2.2.1 k0_t5 k0_h2
theorem k0_off20_inb : ∀ (k0_t1 : Fin k0_t1_loop.trips) (v3 : BitVec 32) (k0_hw1 : k0_chk1 k0_t1 v3) (k0_t5 : Fin (k0_t5_loop v3).trips), ∀ (k0_h2 : k0_cond2 v3 k0_t5 = 1#1), ∀ a, (k0_off20 v3 k0_t5) a + S1x256x1024.size a ≤ S8x256x1024.size a := fun k0_t1 v3 k0_hw1 k0_t5 k0_h2 => k0_hw1.2.2.2.2.2.2.2.2.2.2.2.2.2.2.2.2.2.2.2.2.2.2.1 k0_t5 k0_h2
theorem k0_off21_inb : ∀ (k0_t1 : Fin k0_t1_loop.trips) (v3 : BitVec 32) (k0_hw1 : k0_chk1 k0_t1 v3) (k0_t5 : Fin (k0_t5_loop v3).trips), ∀ (k0_h2 : k0_cond2 v3 k0_t5 = 1#1), ∀ a, (k0_off21 k0_t1 v3 k0_t5) a + S1x256x1024.size a ≤ S16x2048x1024.size a := fun k0_t1 v3 k0_hw1 k0_t5 k0_h2 => k0_hw1.2.2.2.2.2.2.2.2.2.2.2.2.2.2.2.2.2.2.2.2.2.2.2 k0_t5 k0_h2

def k0_off22 (k0_t1 : Fin k0_t1_loop.trips) : Fin 3 → Nat :=
  let c0_i32 : BitVec 32 := 0#32
  let c1_i32 : BitVec 32 := 1#32
  let arg9 : BitVec 32 := Scf.iv c0_i32 c1_i32 k0_t1
  let v70 : Index := Scalar.indexCast arg9
  let c0_29 : Index := 0#32
  let c0_30 : Index := 0#32
  ![v70.toNat, 0, 0]
def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S16x24x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def k1_cond2 (i : grid1.Coords) : BitVec 1 :=
  let arg0 : BitVec 32 := BitVec.ofNat 32 (i 0).val
  let c3_i32 : BitVec 32 := 3#32
  let v12 : BitVec 1 := Scalar.cmpi .eq arg0 c3_i32
  let v13 : BitVec 32 := Scalar.extui v12
  let c0_i32_8 : BitVec 32 := 0#32
  let v14 : BitVec 1 := Scalar.cmpi .ne v13 c0_i32_8
  v14

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S16x1792 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1024x1792 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x2 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S16x2 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]
-- ==== ReferenceIdeal.lean ====
abbrev S16x1024 : Shape := ⟨2, ![16, 1024]⟩
abbrev S16x2048x1024 : Shape := ⟨3, ![16, 2048, 1024]⟩
abbrev S16 : Shape := ⟨1, ![16]⟩
abbrev S256x1024 : Shape := ⟨2, ![256, 1024]⟩
abbrev S256 : Shape := ⟨1, ![256]⟩
abbrev S1024x7168 : Shape := ⟨2, ![1024, 7168]⟩
abbrev S1024 : Shape := ⟨1, ![1024]⟩
abbrev S2x1024 : Shape := ⟨2, ![2, 1024]⟩
abbrev S2 : Shape := ⟨1, ![2]⟩
abbrev S_ : Shape := ⟨0, ![]⟩
abbrev S24 : Shape := ⟨1, ![24]⟩
abbrev S1x24 : Shape := ⟨2, ![1, 24]⟩
abbrev S16x1 : Shape := ⟨2, ![16, 1]⟩
abbrev S16x24 : Shape := ⟨2, ![16, 24]⟩
abbrev S2048 : Shape := ⟨1, ![2048]⟩
abbrev S1x1x2048 : Shape := ⟨3, ![1, 1, 2048]⟩
abbrev S16x24x1 : Shape := ⟨3, ![16, 24, 1]⟩
abbrev S16x24x2048 : Shape := ⟨3, ![16, 24, 2048]⟩
abbrev S1024x256 : Shape := ⟨2, ![1024, 256]⟩
abbrev S16x2048x256 : Shape := ⟨3, ![16, 2048, 256]⟩
abbrev S1x1x256 : Shape := ⟨3, ![1, 1, 256]⟩
abbrev S16x24x256 : Shape := ⟨3, ![16, 24, 256]⟩
abbrev S16x6144 : Shape := ⟨2, ![16, 6144]⟩
abbrev S16x7168 : Shape := ⟨2, ![16, 7168]⟩
abbrev S7168x1024 : Shape := ⟨2, ![7168, 1024]⟩
abbrev S1x1024 : Shape := ⟨2, ![1, 1024]⟩
abbrev S1024x2 : Shape := ⟨2, ![1024, 2]⟩
abbrev S16x2 : Shape := ⟨2, ![16, 2]⟩
abbrev S1x2 : Shape := ⟨2, ![1, 2]⟩

abbrev nBuf : Space → Nat
  | .hbm => 97
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S16x2048x1024, .f32⟩
  | .hbm, ⟨2, _⟩ => ⟨S16, .i32⟩
  | .hbm, ⟨3, _⟩ => ⟨S256x1024, .f32⟩
  | .hbm, ⟨4, _⟩ => ⟨S256, .f32⟩
  | .hbm, ⟨5, _⟩ => ⟨S1024x7168, .f32⟩
  | .hbm, ⟨6, _⟩ => ⟨S1024, .f32⟩
  | .hbm, ⟨7, _⟩ => ⟨S2x1024, .f32⟩
  | .hbm, ⟨8, _⟩ => ⟨S2, .f32⟩
  | .hbm, ⟨9, _⟩ => ⟨S_, .i32⟩
  | .hbm, ⟨10, _⟩ => ⟨S_, .i32⟩
  | .hbm, ⟨11, _⟩ => ⟨S16, .i32⟩
  | .hbm, ⟨12, _⟩ => ⟨S16, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S16, .i32⟩
  | .hbm, ⟨18, _⟩ => ⟨S16, .i32⟩
  | .hbm, ⟨19, _⟩ => ⟨S_, .i32⟩
  | .hbm, ⟨20, _⟩ => ⟨S16, .i32⟩
  | .hbm, ⟨21, _⟩ => ⟨S16, .i1⟩
  | .hbm, ⟨22, _⟩ => ⟨S16, .i1⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16, .i32⟩
  | .hbm, ⟨27, _⟩ => ⟨S_, .i32⟩
  | .hbm, ⟨28, _⟩ => ⟨S16, .i32⟩
  | .hbm, ⟨29, _⟩ => ⟨S16, .i32⟩
  | .hbm, ⟨30, _⟩ => ⟨S24, .i32⟩
  | .hbm, ⟨31, _⟩ => ⟨S1x24, .i32⟩
  | .hbm, ⟨32, _⟩ => ⟨S16x1, .i32⟩
  | .hbm, ⟨33, _⟩ => ⟨S16x24, .i32⟩
  | .hbm, ⟨34, _⟩ => ⟨S16x24, .i32⟩
  | .hbm, ⟨35, _⟩ => ⟨S16x24, .i32⟩
  | .hbm, ⟨36, _⟩ => ⟨S16x1, .i32⟩
  | .hbm, ⟨37, _⟩ => ⟨S16x24, .i32⟩
  | .hbm, ⟨38, _⟩ => ⟨S16x24, .i32⟩
  | .hbm, ⟨39, _⟩ => ⟨S16x1, .i32⟩
  | .hbm, ⟨40, _⟩ => ⟨S16x24, .i32⟩
  | .hbm, ⟨41, _⟩ => ⟨S16x24, .i32⟩
  | .hbm, ⟨42, _⟩ => ⟨S2048, .i32⟩
  | .hbm, ⟨43, _⟩ => ⟨S1x1x2048, .i32⟩
  | .hbm, ⟨44, _⟩ => ⟨S16x24x1, .i32⟩
  | .hbm, ⟨45, _⟩ => ⟨S16x24x2048, .i32⟩
  | .hbm, ⟨46, _⟩ => ⟨S16x24x2048, .i32⟩
  | .hbm, ⟨47, _⟩ => ⟨S16x24x2048, .i1⟩
  | .hbm, ⟨48, _⟩ => ⟨S1x1x2048, .i32⟩
  | .hbm, ⟨49, _⟩ => ⟨S16x24x1, .i32⟩
  | .hbm, ⟨50, _⟩ => ⟨S16x24x2048, .i32⟩
  | .hbm, ⟨51, _⟩ => ⟨S16x24x2048, .i32⟩
  | .hbm, ⟨52, _⟩ => ⟨S16x24x2048, .i1⟩
  | .hbm, ⟨53, _⟩ => ⟨S16x24x2048, .i1⟩
  | .hbm, ⟨54, _⟩ => ⟨S16x24x2048, .f32⟩
  | .hbm, ⟨55, _⟩ => ⟨S1024x256, .f32⟩
  | .hbm, ⟨56, _⟩ => ⟨S16x2048x256, .f32⟩
  | .hbm, ⟨57, _⟩ => ⟨S1x1x256, .f32⟩
  | .hbm, ⟨58, _⟩ => ⟨S16x2048x256, .f32⟩
  | .hbm, ⟨59, _⟩ => ⟨S16x2048x256, .f32⟩
  | .hbm, ⟨60, _⟩ => ⟨S16x24x256, .f32⟩
  | .hbm, ⟨61, _⟩ => ⟨S_, .f32⟩
  | .hbm, ⟨62, _⟩ => ⟨S16x24, .f32⟩
  | .hbm, ⟨63, _⟩ => ⟨S_, .f32⟩
  | .hbm, ⟨64, _⟩ => ⟨S16x24, .f32⟩
  | .hbm, ⟨65, _⟩ => ⟨S16x24, .f32⟩
  | .hbm, ⟨66, _⟩ => ⟨S16x24x1, .f32⟩
  | .hbm, ⟨67, _⟩ => ⟨S16x24x256, .f32⟩
  | .hbm, ⟨68, _⟩ => ⟨S16x24x256, .f32⟩
  | .hbm, ⟨69, _⟩ => ⟨S16x1, .i32⟩
  | .hbm, ⟨70, _⟩ => ⟨S16x24, .i32⟩
  | .hbm, ⟨71, _⟩ => ⟨S16x24, .i1⟩
  | .hbm, ⟨72, _⟩ => ⟨S16x24, .f32⟩
  | .hbm, ⟨73, _⟩ => ⟨S16x24x1, .f32⟩
  | .hbm, ⟨74, _⟩ => ⟨S16x24x256, .f32⟩
  | .hbm, ⟨75, _⟩ => ⟨S16x24x256, .f32⟩
  | .hbm, ⟨76, _⟩ => ⟨S16x6144, .f32⟩
  | .hbm, ⟨77, _⟩ => ⟨S16x7168, .f32⟩
  | .hbm, ⟨78, _⟩ => ⟨S7168x1024, .f32⟩
  | .hbm, ⟨79, _⟩ => ⟨S16x1024, .f32⟩
  | .hbm, ⟨80, _⟩ => ⟨S1x1024, .f32⟩
  | .hbm, ⟨81, _⟩ => ⟨S16x1024, .f32⟩
  | .hbm, ⟨82, _⟩ => ⟨S16x1024, .f32⟩
  | .hbm, ⟨83, _⟩ => ⟨S_, .f32⟩
  | .hbm, ⟨84, _⟩ => ⟨S16x1024, .f32⟩
  | .hbm, ⟨85, _⟩ => ⟨S16x1024, .f32⟩
  | .hbm, ⟨86, _⟩ => ⟨S16x1024, .f32⟩
  | .hbm, ⟨87, _⟩ => ⟨S_, .f32⟩
  | .hbm, ⟨88, _⟩ => ⟨S16x1024, .f32⟩
  | .hbm, ⟨89, _⟩ => ⟨S16x1024, .f32⟩
  | .hbm, ⟨90, _⟩ => ⟨S16x1024, .f32⟩
  | .hbm, ⟨91, _⟩ => ⟨S16x1024, .f32⟩
  | .hbm, ⟨92, _⟩ => ⟨S1024x2, .f32⟩
  | .hbm, ⟨93, _⟩ => ⟨S16x2, .f32⟩
  | .hbm, ⟨94, _⟩ => ⟨S1x2, .f32⟩
  | .hbm, ⟨95, _⟩ => ⟨S16x2, .f32⟩
  | .hbm, ⟨96, _⟩ => ⟨S16x2, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v0 : Ref sig .tc := ⟨.hbm, 26, rfl⟩
abbrev main_c_0 : Ref sig .tc := ⟨.hbm, 27, rfl⟩
abbrev main_v1 : Ref sig .tc := ⟨.hbm, 28, rfl⟩
abbrev main_v2 : Ref sig .tc := ⟨.hbm, 29, rfl⟩
abbrev main_v3 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_v7 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_cst : Ref sig .tc := ⟨.hbm, 61, rfl⟩
abbrev main_v34 : Ref sig .tc := ⟨.hbm, 62, rfl⟩
abbrev main_cst_1 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_2 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_cst_3 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩

abbrev nD : Nat := 1
abbrev τ : Topo := Topo.v7x

variable {F : FTy → Type} [FloatOps F]
-- ==== Proof.Words.lean ====
/-
  The words of the pooling kernel. A sample's episode count is a word `v`; from it the kernel computes how many steps are used, how many
  chunks of 256 steps that takes, its loops' bounds and the offsets of its copies. Here those words are closed forms of the number
  `v.toNat`, for every count of at most 2048.
-/
module

public import proofs.«01_k».proof.Proof.Gen.KernelIdeal.Loops

@[expose] public section

set_option maxRecDepth 16384

noncomputable section

namespace Cert.Proof

open Cert.KernelIdeal Cert.KernelIdeal.Gen
open Idealize.ShloMosaic

/-- Steps per episode of a sample with `n` steps: a 24th of them, at least one. -/
def epLen (n : ℕ) : ℕ := max (n / 24) 1
/-- Steps that belong to one of the 24 episodes. -/
def used (n : ℕ) : ℕ := min (24 * epLen n) n
/-- Chunks of 256 steps that cover the used steps. -/
def nch (n : ℕ) : ℕ := (used n + 255) / 256

/-- At most eight chunks are needed. -/
theorem nch_le {n : ℕ} (h : n ≤ 2048) : nch n ≤ 8 := by unfold nch used; omega

/-- What the kernel's words must be for the count `v`: both chunk loops run over the chunks, neither remainder loop runs. -/
def LoopWords (v : BitVec 32) (n : ℕ) : Prop :=
  k0_t2_loop v = ⟨0#32, BitVec.ofNat 32 (nch n), 1#32⟩ ∧ (k0_t3_loop v).trips = 0 ∧
  k0_t4_loop v = ⟨0#32, BitVec.ofNat 32 (nch n), 1#32⟩ ∧ (k0_t5_loop v).trips = 0 ∧
  (k0_t3_loop v).OK ∧ (k0_t5_loop v).OK

/-- This can be decided. -/
instance (v : BitVec 32) (n : ℕ) : Decidable (LoopWords v n) :=
  decidable_of_iff
    (((k0_t2_loop v).lb = 0#32 ∧ (k0_t2_loop v).ub = BitVec.ofNat 32 (nch n) ∧ (k0_t2_loop v).st = 1#32) ∧ (k0_t3_loop v).trips = 0 ∧
      ((k0_t4_loop v).lb = 0#32 ∧ (k0_t4_loop v).ub = BitVec.ofNat 32 (nch n) ∧ (k0_t4_loop v).st = 1#32) ∧ (k0_t5_loop v).trips = 0 ∧
      (k0_t3_loop v).OK ∧ (k0_t5_loop v).OK)
    (by
      unfold LoopWords
      constructor
      · rintro ⟨⟨a, b, c⟩, d, ⟨e, f, g⟩, h⟩
        exact ⟨by rw [← a, ← b, ← c], d, by rw [← e, ← f, ← g], h⟩
      · rintro ⟨a, d, b, h⟩
        refine ⟨by rw [a]; exact ⟨rfl, rfl, rfl⟩, d, by rw [b]; exact ⟨rfl, rfl, rfl⟩, h⟩)

/-- The loop words of every count the lengths may take. -/
theorem loopWords_all : ∀ n : Fin 2049, LoopWords (BitVec.ofNat 32 n) n := by decide +kernel

/-- No chunk is copied a second time: the condition for it is never met. -/
theorem cond1_all : ∀ n : Fin 2049, ∀ k : Fin (k0_t4_loop (BitVec.ofNat 32 n)).trips, k0_cond1 (BitVec.ofNat 32 n) k ≠ 1#1 := by decide +kernel

/-- The offset of a slot, from a chunk's number below eight. -/
theorem slotWord : ∀ k : Fin 8, (Scalar.remsi (Scf.iv 0#32 1#32 k) 8#32).toNat = k := by decide +kernel
/-- The first step of a chunk, from its number. -/
theorem stepWord : ∀ k : Fin 8, (Scalar.muli (Scf.iv 0#32 1#32 k) 256#32).toNat = 256 * k := by decide +kernel
/-- A trip's number among sixteen samples. -/
theorem rowWord : ∀ t : Fin 16, (Scf.iv 0#32 1#32 t).toNat = t := by decide +kernel
/-- A loop over the chunks makes one trip per chunk. -/
theorem tripsWord : ∀ m : Fin 9, (⟨0#32, BitVec.ofNat 32 m, 1#32⟩ : Scf.Loop 32).trips = m := by decide +kernel
/-- Such a loop is well formed. -/
theorem okWord : ∀ m : Fin 9, (⟨0#32, BitVec.ofNat 32 m, 1#32⟩ : Scf.Loop 32).OK := by decide +kernel

/-- A word is the word of its number. -/
theorem ofNat_toNat (v : BitVec 32) : BitVec.ofNat 32 v.toNat = v := by simp

section
variable {v : BitVec 32} (hv : v.toNat ≤ 2048)
include hv

/-- The loop words of a count in range. -/
theorem loopWords : LoopWords v v.toNat := by
  have h := loopWords_all ⟨v.toNat, by omega⟩
  rwa [ofNat_toNat] at h

/-- One trip of the first loop per chunk. -/
theorem t2_trips : (k0_t2_loop v).trips = nch v.toNat := by
  rw [(loopWords hv).1]; exact tripsWord ⟨nch v.toNat, by have := nch_le hv; omega⟩
/-- One trip of the second loop per chunk. -/
theorem t4_trips : (k0_t4_loop v).trips = nch v.toNat := by
  rw [(loopWords hv).2.2.1]; exact tripsWord ⟨nch v.toNat, by have := nch_le hv; omega⟩

/-- No chunk lies eight past another, so the second loop starts no further copy. -/
theorem cond1_ne (k : Fin (k0_t4_loop v).trips) : k0_cond1 v k ≠ 1#1 := by
  obtain ⟨n, hn⟩ : ∃ n : Fin 2049, BitVec.ofNat 32 n = v := ⟨⟨v.toNat, Nat.lt_succ_of_le hv⟩, ofNat_toNat v⟩
  subst hn
  exact cond1_all n k

/-- Both loops' trips are numbered below eight, the slots there are: the first's, -/
theorem t2_lt (k : Fin (k0_t2_loop v).trips) : k.val < 8 :=
  lt_of_lt_of_le (k.2.trans_eq (t2_trips hv)) (nch_le hv)
/-- and the second's. -/
theorem t4_lt (k : Fin (k0_t4_loop v).trips) : k.val < 8 :=
  lt_of_lt_of_le (k.2.trans_eq (t4_trips hv)) (nch_le hv)

/-- The first loop's semaphore stands at the trip's number. -/
theorem off2_eq (k : Fin (k0_t2_loop v).trips) : k0_off2 v k = ![k.val] := by
  unfold k0_off2; dsimp only; rw [slotWord ⟨k, t2_lt hv k⟩]
theorem off3_eq (k : Fin (k0_t2_loop v).trips) : k0_off3 v k = ![k.val, 0, 0] := by
  unfold k0_off3; dsimp only; rw [slotWord ⟨k, t2_lt hv k⟩]
theorem off4_eq (t : Fin k0_t1_loop.trips) (k : Fin (k0_t2_loop v).trips) : k0_off4 t v k = ![t.val, 256 * k.val, 0] := by
  unfold k0_off4; dsimp only; rw [stepWord ⟨k, t2_lt hv k⟩, rowWord ⟨t.val, t.2⟩]
theorem off8_eq (k : Fin (k0_t4_loop v).trips) : k0_off8 v k = ![k.val] := by
  unfold k0_off8; dsimp only; rw [slotWord ⟨k, t4_lt hv k⟩]
theorem off9_eq (k : Fin (k0_t4_loop v).trips) : k0_off9 v k = ![k.val, 0, 0] := by
  unfold k0_off9; dsimp only; rw [slotWord ⟨k, t4_lt hv k⟩]
theorem off10_eq (t : Fin k0_t1_loop.trips) (k : Fin (k0_t4_loop v).trips) : k0_off10 t v k = ![t.val, 256 * k.val, 0] := by
  unfold k0_off10; dsimp only; rw [stepWord ⟨k, t4_lt hv k⟩, rowWord ⟨t.val, t.2⟩]
theorem off11_eq (k : Fin (k0_t4_loop v).trips) : k0_off11 v k = ![k.val, 0, 0] := by
  unfold k0_off11; dsimp only [Scalar.indexCast]; rw [slotWord ⟨k, t4_lt hv k⟩]

/-- The side conditions of a sample's copies hold at every count in range. -/
theorem chk (t : Fin k0_t1_loop.trips) : k0_chk1 t v := by
  have ht : t.val < 16 := t.2
  have hn := nch_le hv
  obtain ⟨l2, l3, l4, l5, o3, o5⟩ := loopWords hv
  refine ⟨by rw [l2]; exact okWord ⟨nch v.toNat, by omega⟩, fun k => ?_, fun k => ?_, fun k => ?_, o3, fun k => (Fin.elim0 (k.cast l3)), fun k => (Fin.elim0 (k.cast l3)),
    fun k => (Fin.elim0 (k.cast l3)), by rw [l4]; exact okWord ⟨nch v.toNat, by omega⟩, fun k => ?_, fun k => ?_, fun k => ?_, fun k => ?_, fun k h => absurd h (cond1_ne hv k),
    fun k h => absurd h (cond1_ne hv k), fun k h => absurd h (cond1_ne hv k), o5, fun k => (Fin.elim0 (k.cast l5)), fun k => (Fin.elim0 (k.cast l5)),
    fun k => (Fin.elim0 (k.cast l5)), fun k => (Fin.elim0 (k.cast l5)), fun k => (Fin.elim0 (k.cast l5)), fun k => (Fin.elim0 (k.cast l5)), fun k => (Fin.elim0 (k.cast l5))⟩
  · have := t2_lt hv k; rw [off2_eq hv]; intro a; fin_cases a; show k.val + 1 ≤ 8; omega
  · have := t2_lt hv k; rw [off3_eq hv]; intro a; fin_cases a <;> [show k.val + 1 ≤ 8; show 0 + 256 ≤ 256; show 0 + 1024 ≤ 1024] <;> omega
  · have := t2_lt hv k; rw [off4_eq hv]; intro a; fin_cases a <;> [show t.val + 1 ≤ 16; show 256 * k.val + 256 ≤ 2048; show 0 + 1024 ≤ 1024] <;> omega
  · have := t4_lt hv k; rw [off8_eq hv]; intro a; fin_cases a; show k.val + 1 ≤ 8; omega
  · have := t4_lt hv k; rw [off9_eq hv]; intro a; fin_cases a <;> [show k.val + 1 ≤ 8; show 0 + 256 ≤ 256; show 0 + 1024 ≤ 1024] <;> omega
  · have := t4_lt hv k; rw [off10_eq hv]; intro a; fin_cases a <;> [show t.val + 1 ≤ 16; show 256 * k.val + 256 ≤ 2048; show 0 + 1024 ≤ 1024] <;> omega
  · have := t4_lt hv k; rw [off11_eq hv]; intro a; fin_cases a <;> [show k.val + 1 ≤ 8; show 0 + 256 ≤ 256; show 0 + 1024 ≤ 1024] <;> omega

end

/-- A count is read at its sample's number. -/
theorem off1_eq (t : Fin k0_t1_loop.trips) : k0_off1 t = ![t.val] := by
  unfold k0_off1; dsimp only [Scalar.indexCast]; rw [rowWord ⟨t.val, t.2⟩]
theorem off22_eq (t : Fin k0_t1_loop.trips) : k0_off22 t = ![t.val, 0, 0] := by
  unfold k0_off22; dsimp only [Scalar.indexCast]; rw [rowWord ⟨t.val, t.2⟩]

end Cert.Proof

end
-- ==== Proof.Flights.lean ====
module

public import proofs.«01_k».proof.Proof.Words
public import Idealize.ShloMosaic.Lib.Transfers
public import Idealize.ShloMosaic.Lib.Ring
public import Idealize.ShloMosaic.Lib.Pipeline.Frame
public import proofs.«01_k».proof.Proof.Gen.KernelIdeal.Launch

/-!
The copies of the pooling kernel. A sample's context is read in chunks of 256 rows; chunk `j` of sample `b` goes to
slot `j` of the staging buffer on semaphore `j`. Here are the memrefs at those places, the state of one slot (free,
or with its copy in flight), and the two steps that take it from one to the other.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- The counters of the copies' tokens. -/
abbrev EC : UEmb Counters 𝕄 := countersEmb (U := Pipeline.UD sig nD τ)

/-- One slot of the staging buffer. -/
abbrev slotRect (o : Fin 3 → Nat) (h : ∀ a, o a + S1x256x1024.size a ≤ S8x256x1024.size a) : Rect S8x256x1024 :=
  Rect.unit (s := S8x256x1024) o S1x256x1024.size h
/-- One chunk of the context. -/
abbrev srcRect (o : Fin 3 → Nat) (h : ∀ a, o a + S1x256x1024.size a ≤ S16x2048x1024.size a) : Rect S16x2048x1024 :=
  Rect.unit (s := S16x2048x1024) o S1x256x1024.size h
/-- A slot as the copy names it. -/
abbrev slotM (o : Fin 3 → Nat) (h : ∀ a, o a + S1x256x1024.size a ≤ S8x256x1024.size a) : Memref sig .tc .vmem S256x1024 .f32 :=
  ((Memref.whole cc0_scratch0).slice (slotRect o h) (fun _ => rfl)).squeeze S256x1024 squeezes_S1x256x1024_S256x1024
/-- A chunk as the copy names it. -/
abbrev srcM (o : Fin 3 → Nat) (h : ∀ a, o a + S1x256x1024.size a ≤ S16x2048x1024.size a) : Memref sig .tc .hbm S256x1024 .f32 :=
  ((Memref.whole main_arg1).slice (srcRect o h) (fun _ => rfl)).squeeze S256x1024 squeezes_S1x256x1024_S256x1024
/-- A slot's semaphore. -/
abbrev semM (o : Fin 1 → Nat) (h : ∀ a, o a + S1.size a ≤ S8.size a) : DmaSem sig :=
  ((cc0_scratch1.slice (Rect.unit (s := S8) o S1.size h)).squeeze S_ squeezes_S1_S_).sem

/-- Every slot lies in the scratch buffer. -/
theorem slot_inb (j : Fin 8) : ∀ a, (![j.val, 0, 0] : Fin 3 → Nat) a + S1x256x1024.size a ≤ S8x256x1024.size a := by
  have := j.2
  intro a; fin_cases a <;> [show j.val + 1 ≤ 8; show 0 + 256 ≤ 256; show 0 + 1024 ≤ 1024] <;> omega
theorem src_inb (b : Fin 16) (j : Fin 8) : ∀ a, (![b.val, 256 * j.val, 0] : Fin 3 → Nat) a + S1x256x1024.size a ≤ S16x2048x1024.size a := by
  have := b.2; have := j.2
  intro a; fin_cases a <;> [show b.val + 1 ≤ 16; show 256 * j.val + 256 ≤ 2048; show 0 + 1024 ≤ 1024] <;> omega
theorem sem_inb (j : Fin 8) : ∀ a, (![j.val] : Fin 1 → Nat) a + S1.size a ≤ S8.size a := by
  have := j.2
  intro a; fin_cases a; show j.val + 1 ≤ 8; omega

/-- The elements of slot `j`, -/
abbrev Sset (j : Fin 8) : Finset S8x256x1024.Idx := (slotRect ![j.val, 0, 0] (slot_inb j)).set
/-- and of chunk `j` of sample `b`. -/
abbrev Tset (b : Fin 16) (j : Fin 8) : Finset S16x2048x1024.Idx := (srcRect ![b.val, 256 * j.val, 0] (src_inb b j)).set
/-- The semaphore of slot `j`. -/
abbrev semJ (j : Fin 8) : DmaSem sig := semM ![j.val] (sem_inb j)

/-- Two slots share no cell, -/
theorem Sset_disj (j j' : Fin 8) (h : j ≠ j') : Disjoint (Sset j) (Sset j') := by
  rw [Finset.disjoint_left]
  intro i hi hi'
  have h1 : j.val ≤ _ ∧ _ < j.val + 1 := (Rect.mem_set_unit.mp hi) 0
  have h2 : j'.val ≤ _ ∧ _ < j'.val + 1 := (Rect.mem_set_unit.mp hi') 0
  exact h (Fin.ext (by omega))

/-- and the slots together are the buffer. -/
theorem Sset_cover : Finset.univ.biUnion Sset = Finset.univ := by
  ext i
  simp only [Finset.mem_biUnion, Finset.mem_univ, true_and, iff_true]
  refine ⟨⟨(i 0).val, (i 0).2⟩, Rect.mem_set_unit.mpr fun a => ?_⟩
  have := (i a).2
  fin_cases a
  · exact ⟨le_refl _, Nat.lt_succ_self _⟩
  · exact ⟨Nat.zero_le _, by simpa using this⟩
  · exact ⟨Nat.zero_le _, by simpa using this⟩

/-- Two chunks of a sample share no cell. -/
theorem Tset_disj (b : Fin 16) (j j' : Fin 8) (h : j ≠ j') : Disjoint (Tset b j) (Tset b j') := by
  rw [Finset.disjoint_left]
  intro i hi hi'
  have h1 : 256 * j.val ≤ _ ∧ _ < 256 * j.val + 256 := (Rect.mem_set_unit.mp hi) 1
  have h2 : 256 * j'.val ≤ _ ∧ _ < 256 * j'.val + 256 := (Rect.mem_set_unit.mp hi') 1
  exact h (Fin.ext (by omega))

/-- Where a device keeps the context, -/
abbrev ctxLoc (c : Dev nD) := (Memref.whole main_arg1).view.loc (c : Thread nD τ)
/-- and the elements of sample `b` the kernel may copy. -/
def rowT (c : Dev nD) (b : Fin 16) : Finset (Idx (ctxLoc c)) := Finset.univ.biUnion (Tset b)

/-- What chunk `j` of sample `b` holds. -/
abbrev chunk (X : BufTy.Contents (Elt F) (Ref.ty main_arg1)) (b : Fin 16) (j : Fin 8) : S1x256x1024.Idx → Elt F .f32 :=
  ((Memref.whole main_arg1).access (srcRect ![b.val, 256 * j.val, 0] (src_inb b j))).read (Elt F) X

/-- The units one copy pays. -/
abbrev units : ℕ := (slotM ![0, 0, 0] (slot_inb 0)).view.dmaCredit

/-- A slot's credit is that of a chunk. -/
theorem units_slot (o h) : (slotM o h).view.dmaCredit = units := rfl
theorem units_amount (o h) (s : DmaSem sig) : (slotM o h).view.amount (.dma s) = units := rfl
theorem units_pos : 0 < units := by decide

section
variable (c : Dev nD) (X : BufTy.Contents (Elt F) (Ref.ty main_arg1))

/-- A slot with no copy in flight: its elements of the buffer at any contents, its chunk of the context, its
    semaphore at zero. -/
def slotFree (b : Fin 16) (j : Fin 8) : sProp 𝕄 :=
  iprop((∃ f, (Memref.whole cc0_scratch0).view.loc (c : Thread nD τ) ↦[Sset j]{fullShare} f)
    ∗ ((Memref.whole main_arg1).view.loc (c : Thread nD τ) ↦[Tset b j]{fullShare} X) ∗ semVal ((c : Thread nD τ), .dma (semJ j)) 0)

/-- What a copy delivers: the slot reading as the chunk, and the chunk back. -/
def slotDone (b : Fin 16) (j : Fin 8) : sProp 𝕄 :=
  iprop((∃ f, ⌜((Memref.whole cc0_scratch0).access (slotRect ![j.val, 0, 0] (slot_inb j))).read (Elt F) f = chunk X b j⌝
      ∗ ((Memref.whole cc0_scratch0).view.loc (c : Thread nD τ) ↦[Sset j]{fullShare} f))
    ∗ ((Memref.whole main_arg1).view.loc (c : Thread nD τ) ↦[Tset b j]{fullShare} X))

/-- A slot whose copy is in flight. -/
def slotFly (b : Fin 16) (j : Fin 8) : sProp 𝕄 :=
  Transfers.Flight EC (c : Thread nD τ) (.dma (semJ j)) () units (slotDone c X b j)

/-- Reading a slot through its squeezed name is reading it through the rectangle. -/
theorem read_slot (o h) (f : BufTy.Contents (Elt F) (Ref.ty cc0_scratch0)) (w : S256x1024.Idx → Elt F .f32) (y : S256x1024.Idx) :
    ((Memref.whole cc0_scratch0).access (slotRect o h)).read (Elt F) ((slotM o h).view.write (Elt F) f w Finset.univ)
      (Shape.reshapeEquiv (squeezes_S1x256x1024_S256x1024.numel_eq) y) = w y := by
  have := congrFun (View.read_write_univ (v := (slotM o h).view) f w) y
  exact this

/-- The two readings of a delivered slot agree. -/
theorem delivered (b : Fin 16) (j : Fin 8) (f : BufTy.Contents (Elt F) (Ref.ty cc0_scratch0)) :
    ((Memref.whole cc0_scratch0).access (slotRect ![j.val, 0, 0] (slot_inb j))).read (Elt F)
      ((slotM ![j.val, 0, 0] (slot_inb j)).view.write (Elt F) f
        ((srcM ![b.val, 256 * j.val, 0] (src_inb b j)).view.read (Elt F) X) Finset.univ) = chunk X b j := by
  funext y
  obtain ⟨z, rfl⟩ := (Shape.reshapeEquiv (squeezes_S1x256x1024_S256x1024.numel_eq)).surjective y
  rw [read_slot]; rfl

/-- ISSUE: a free slot's copy is started. -/
theorem issue_step {α : Type} {Q : α → sProp 𝕄} (b : Fin 16) (j : Fin 8) {o2 : Fin 1 → Nat} {o3 o4 : Fin 3 → Nat}
    {h2 : ∀ a, o2 a + S1.size a ≤ S8.size a} {h3 : ∀ a, o3 a + S1x256x1024.size a ≤ S8x256x1024.size a}
    {h4 : ∀ a, o4 a + S1x256x1024.size a ≤ S16x2048x1024.size a}
    (e2 : o2 = ![j.val]) (e3 : o3 = ![j.val, 0, 0]) (e4 : o4 = ![b.val, 256 * j.val, 0])
    {hsrc : (srcM o4 h4).view.WordExact} {hdst : (slotM o3 h3).view.WordExact}
    {hsem : DmaTarget.Typed (nD := nD) (τ := τ) (p := (c : Thread nD τ).2) .hbm (SemLoc.dma (semM o2 h2)) (.here (slotM o3 h3))}
    {k : PUnit → Prog (TpuEff nD τ sig (Elt F) Λ₀ .tc) α} :
    slotFree c X b j ⊢ iprop((slotFly c X b j -∗ wp frame (wpE defs₀ Variants.none (c : Thread nD τ) none) Set.univ (k ⟨⟩) Q)
      -∗ wp frame (wpE defs₀ Variants.none (c : Thread nD τ) none) Set.univ
          (.op (.enqueueDmaAs (srcM o4 h4) (.here (slotM o3 h3)) .same (.dma (semM o2 h2)) hsrc hdst hsem) k) Q) := by
  subst e2 e3 e4
  unfold slotFree slotFly
  iintro ⟨⟨%f, HS⟩, HT, HV⟩ Hk
  have hset : (slotM ![j.val, 0, 0] (slot_inb j)).view.set = Sset j := by rw [View.set_reshape, View.set_slice_whole]
  have htset : (srcM ![b.val, 256 * j.val, 0] (src_inb b j)).view.set = Tset b j := by rw [View.set_reshape, View.set_slice_whole]
  have h := Transfers.wp_dmaLocal (defs := defs₀ (F := F)) (Lvl := ℕ) (EC (F := F)) Variants.none (c : Thread nD τ) none (Q := Q)
    (src := srcM ![b.val, 256 * j.val, 0] (src_inb b j)) (dst := slotM ![j.val, 0, 0] (slot_inb j)) (via := .same)
    (sm := .dma (semJ j)) (hsrc := hsrc) (hdst := hdst) (hsem := hsem) (k := k) (fs := X) (fd := f) (Sd := Sset j)
    (q := fullShare) () units (units_amount _ _ _) units_pos hset.le
  rw [htset] at h
  iapply h $$ [HS HT HV]
  · isplitl [HT]; · iexact HT
    isplitl [HS]; · iexact HS
    iexact HV
  · iintro HF
    iapply Hk
    iapply (Transfers.Flight_mono (EC (F := F)) (c : Thread nD τ) ?_) $$ HF
    unfold slotDone
    iintro ⟨H1, H2⟩
    isplitl [H1]
    · iexists _
      isplitr
      · ipureintro; exact delivered X b j f
      · iexact H1
    · iexact H2

/-- WAIT: the copy in flight lands. -/
theorem wait_step {α : Type} {Q : α → sProp 𝕄} (b : Fin 16) (j : Fin 8) {o2 : Fin 1 → Nat} {o3 o4 : Fin 3 → Nat}
    {h2 : ∀ a, o2 a + S1.size a ≤ S8.size a} {h3 : ∀ a, o3 a + S1x256x1024.size a ≤ S8x256x1024.size a}
    {h4 : ∀ a, o4 a + S1x256x1024.size a ≤ S16x2048x1024.size a}
    (e2 : o2 = ![j.val]) (W : Waits sig Unit)
    {hsrc : (srcM o4 h4).view.WordExact} {hdst : (slotM o3 h3).view.WordExact}
    {k : PUnit → Prog (TpuEff nD τ sig (Elt F) Λ₀ .tc) α} :
    iprop(slotFly c X b j ∗ owes (c : Thread nD τ) 0 W)
      ⊢ iprop((iprop(slotDone c X b j ∗ semVal ((c : Thread nD τ), .dma (semJ j)) 0 ∗ owes (c : Thread nD τ) 0 (insert (SemLoc.dma (semJ j), ()) W))
          -∗ wp frame (wpE defs₀ Variants.none (c : Thread nD τ) none) Set.univ (k ⟨⟩) Q)
      -∗ wp frame (wpE defs₀ Variants.none (c : Thread nD τ) none) Set.univ
          (.op (.waitDma2 (semM o2 h2) (srcM o4 h4) (slotM o3 h3) hsrc hdst) k) Q) := by
  subst e2
  exact Transfers.wp_waitLocal (EC (F := F)) Variants.none (c : Thread nD τ) none () (units_slot _ _)

/-- LOAD: a slot is read at the rectangle of its number. -/
theorem load_step {α : Type} {Q : α → sProp 𝕄} (j : Fin 8) {o : Fin 3 → Nat} {h : ∀ a, o a + S1x256x1024.size a ≤ S8x256x1024.size a}
    (e : o = ![j.val, 0, 0]) {hl : (Memref.whole cc0_scratch0).view.LoadsAt (slotRect o h).toLoadRect} (f : BufTy.Contents (Elt F) (Ref.ty cc0_scratch0))
    {k : (S1x256x1024.Idx → Elt F .f32) → Prog (TpuEff nD τ sig (Elt F) Λ₀ .tc) α} :
    ((Memref.whole cc0_scratch0).view.loc (c : Thread nD τ) ↦[Sset j]{fullShare} f)
      ⊢ iprop((((Memref.whole cc0_scratch0).view.loc (c : Thread nD τ) ↦[Sset j]{fullShare} f)
          -∗ wp frame (wpE defs₀ Variants.none (c : Thread nD τ) none) Set.univ
            (k (((Memref.whole cc0_scratch0).access (slotRect ![j.val, 0, 0] (slot_inb j))).read (Elt F) f)) Q)
      -∗ wp frame (wpE defs₀ Variants.none (c : Thread nD τ) none) Set.univ
          (.op (.load (Memref.whole cc0_scratch0) (slotRect o h).toLoadRect hl) k) Q) := by
  subst e
  exact wp_load_rect Variants.none (c : Thread nD τ) none Set.univ (m := Memref.whole cc0_scratch0) (r := slotRect ![j.val, 0, 0] h) (S := Sset j)
    (by rw [View.set_slice_whole])

end

end Cert.Proof
-- ==== Proof.PoolLoops.lean ====
module

public import proofs.«01_k».proof.Proof.Flights

/-!
One sample of the pooling kernel: the loop that starts its copies and the loop that waits for each and adds the chunk's
masked sum to the accumulator.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

/-- A member taken off a family, and put back changed. -/
theorem family_take {I : Type} [Fintype I] [DecidableEq I] (Φ Ψ : I → sProp 𝕄) (a : I) (h : ∀ x, x ≠ a → Ψ x = Φ x) :
    bigSep Finset.univ Φ ⊢ iprop(Φ a ∗ (Ψ a -∗ bigSep Finset.univ Ψ)) := by
  rw [show bigSep Finset.univ Φ = iprop(Φ a ∗ bigSep (Finset.univ.erase a) Φ) from BI.bigSep_erase (Finset.mem_univ a),
    show bigSep Finset.univ Ψ = iprop(Ψ a ∗ bigSep (Finset.univ.erase a) Ψ) from BI.bigSep_erase (Finset.mem_univ a),
    show bigSep (Finset.univ.erase a) Ψ = bigSep (Finset.univ.erase a) Φ from
      BI.bigSep_congr fun x hx => h x (Finset.ne_of_mem_erase hx)]
  iintro ⟨H1, H2⟩
  isplitl [H1]; · iexact H1
  iintro H3
  isplitl [H3]; · iexact H3
  iexact H2

/-- A step's rule against the continuation's proof. -/
theorem step_trans {A B G W : sProp 𝕄} (h : A ⊢ iprop(G -∗ W)) (hB : B ⊢ G) : iprop(A ∗ B) ⊢ W := by
  iintro ⟨HA, HB⟩
  iapply h $$ HA
  iapply hB; iexact HB

/-- A counted loop at the head of a program, by an invariant over its trips. -/
theorem loop_bind (c : Dev nD) (l : Scf.Loop 32) (hok : l.OK) (body : Fin l.trips → Unit → Prog (TpuEff nD τ sig (Elt F) Λ₀ .tc) Unit) (I : ℕ → sProp 𝕄)
    (hbody : ∀ (k : Fin l.trips) (u : Unit), I k.val ⊢ wp frame (wpE defs₀ Variants.none (c : Thread nD τ) none) Set.univ (body k u) (fun _ => I (k.val + 1)))
    {α : Type} {kk : Unit → Prog (TpuEff nD τ sig (Elt F) Λ₀ .tc) α} {Q : α → sProp 𝕄} :
    I 0 ⊢ iprop((I l.trips -∗ wp frame (wpE defs₀ Variants.none (c : Thread nD τ) none) Set.univ (kk ()) Q)
      -∗ wp frame (wpE defs₀ Variants.none (c : Thread nD τ) none) Set.univ (Scf.Loop.for l hok PUnit.unit body >>= kk) Q) := by
  have h := Scf.wp_for_bind frame (wpE defs₀ Variants.none (c : Thread nD τ) none) Set.univ l.lb l.ub l.st hok () body
    (fun k _ => I k) hbody (kk := kk) (Q := Q)
  iintro H Hk
  iapply h $$ H
  iintro %_ H
  iapply Hk; iexact H

section
variable (c : Dev nD) (X : BufTy.Contents (Elt F) (Ref.ty main_arg1))

/-- The slots of a sample with the copies of chunks `lo` to `hi` (exclusive) in flight. -/
def slots (b : Fin 16) (lo hi : ℕ) : sProp 𝕄 :=
  bigSep Finset.univ fun j : Fin 8 => if lo ≤ j.val ∧ j.val < hi then slotFly c X b j else slotFree c X b j

/-- Starting one more copy. -/
theorem slots_issue (b : Fin 16) (k : Fin 8) :
    slots c X b 0 k ⊢ iprop(slotFree c X b k ∗ (slotFly c X b k -∗ slots c X b 0 (k.val + 1))) := by
  unfold slots
  refine (family_take _ (fun j : Fin 8 => if 0 ≤ j.val ∧ j.val < k.val + 1 then slotFly c X b j else slotFree c X b j) k ?_).trans ?_
  · intro x hx
    have hx' : x.val ≠ k.val := fun e => hx (Fin.ext e)
    have : (0 ≤ x.val ∧ x.val < k.val + 1) ↔ (0 ≤ x.val ∧ x.val < k.val) := by omega
    simp only [this]
  · rw [if_neg (by omega), if_pos (by omega)]

/-- Waiting for the first copy in flight. -/
theorem slots_wait (b : Fin 16) (k : Fin 8) (n : ℕ) (hk : k.val < n) :
    slots c X b k n ⊢ iprop(slotFly c X b k ∗ (slotFree c X b k -∗ slots c X b (k.val + 1) n)) := by
  unfold slots
  refine (family_take _ (fun j : Fin 8 => if k.val + 1 ≤ j.val ∧ j.val < n then slotFly c X b j else slotFree c X b j) k ?_).trans ?_
  · intro x hx
    have hx' : x.val ≠ k.val := fun e => hx (Fin.ext e)
    have : (k.val + 1 ≤ x.val ∧ x.val < n) ↔ (k.val ≤ x.val ∧ x.val < n) := by omega
    simp only [this]
  · rw [if_pos (by omega), if_neg (by omega)]

/-- With no copy in flight every slot is free. -/
theorem slots_none (b : Fin 16) (n : ℕ) : slots c X b n n = bigSep Finset.univ (slotFree c X b) := by
  unfold slots
  exact BI.bigSep_congr fun j _ => if_neg (by omega)

variable (i : grid0.Coords) (A3 : Memref sig .tc .vmem S256x1024 .f32) (h3 : A3.IsWhole) (A4 : Memref sig .tc .vmem S1x256 .f32) (h4 : A4.IsWhole)
  (A5 : Memref sig .tc .vmem S16x24x256 .f32) (h5 : A5.IsWhole) (h1 : (Memref.whole main_arg2 : Memref sig .tc .smem S16 .i32).IsWhole)
  (h2 : (Memref.whole main_arg1 : Memref sig .tc .hbm S16x2048x1024 .f32).IsWhole)
  (h6 : (Memref.whole cc0_scratch0 : Memref sig .tc .vmem S8x256x1024 .f32).IsWhole)
  (h8 : (Memref.whole cc0_scratch2 : Memref sig .tc .vmem S24x1024 .f32).IsWhole)
  (b : Fin k0_t1_loop.trips) (v : BitVec 32) (hw : k0_chk1 b v)

/-- The sample a trip of the outer loop handles. -/
abbrev row (b : Fin k0_t1_loop.trips) : Fin 16 := ⟨b.val, b.2⟩

/-- One trip of the loop that starts the copies. -/
theorem trip2 (hv : v.toNat ≤ 2048) (v0 : IVec S24x1 32) (x y : BitVec 32) (k : Fin (k0_t2_loop v).trips) (u : Unit) :
    slots c X (row b) 0 k.val
      ⊢ wp frame (wpE defs₀ Variants.none (c : Thread nD τ) none) Set.univ
          (k0_t2_body (F := F) i (Memref.whole main_arg2) h1 (Memref.whole main_arg1) h2 A3 h3 A4 h4 A5 h5 (Memref.whole cc0_scratch0) h6 cc0_scratch1
            (Memref.whole cc0_scratch2) h8 v0 x y b v hw k u)
          (fun _ => slots c X (row b) 0 (k.val + 1)) := by
  have h := issue_step c X (Q := fun _ : Unit => slots c X (row b) 0 (k.val + 1)) (row b) ⟨k.val, t2_lt hv k⟩
    (h2 := k0_off2_inb b v hw k) (h3 := k0_off3_inb b v hw k) (h4 := k0_off4_inb b v hw k)
    (off2_eq hv k) (off3_eq hv k) (off4_eq hv b k) (hsrc := (View.wordExact_bits rfl).reshape _ _) (hdst := (View.wordExact_bits rfl).reshape _ _)
    (hsem := ⟨Or.inl rfl, trivial⟩) (k := fun _ => .ret ())
  have hs := slots_issue c X (row b) ⟨k.val, t2_lt hv k⟩
  refine hs.trans (step_trans h ?_)
  iintro H2 H3
  rw [wp_ret]
  imodintro
  iapply H2; iexact H3

/-- The whole of the accumulator. -/
abbrev accR : Rect S24x1024 := Rect.unit (s := S24x1024) ![0, 0] S24x1024.size inb_S24x1024_S24x1024_0_0
/-- The start and the end of each episode of a sample. -/
abbrev starts (F : FTy → Type) [FloatOps F] (v : BitVec 32) : IVec S24x1 32 := k0_pay5 (F := F) (iota .tc S24x1 32 [0] iota_S24x1_d0_w32) v
abbrev ends (F : FTy → Type) [FloatOps F] (v : BitVec 32) : IVec S24x1 32 := k0_pay6 (F := F) (iota .tc S24x1 32 [0] iota_S24x1_d0_w32) v

/-- The accumulator of sample `b` after `k` chunks. -/
def accVal (b : Fin 16) (v : BitVec 32) (hv : v.toNat ≤ 2048) : ℕ → (S24x1024.Idx → Elt F .f32)
  | 0 => k0_pay1 k0_pay7
  | k + 1 => if h : k < (k0_t4_loop v).trips then
      k0_pay2 v (starts F v) (ends F v) ⟨k, h⟩ (accVal b v hv k) (chunk X b ⟨k, t4_lt hv ⟨k, h⟩⟩) else accVal b v hv k

/-- The accumulator's buffer reading as `w`. -/
def accIs (w : S24x1024.Idx → Elt F .f32) : sProp 𝕄 :=
  iprop(∃ f : BufTy.Contents (Elt F) (Ref.ty cc0_scratch2), ⌜((Memref.whole cc0_scratch2).access accR).read (Elt F) f = w⌝
    ∗ ((Memref.whole cc0_scratch2).view.loc (c : Thread nD τ) ↦{fullShare} f))

/-- Some record of the waits made so far. -/
def owesSome : sProp 𝕄 := iprop(∃ W, owes (c : Thread nD τ) 0 W)

/-- Before trip `k` of the loop that waits. -/
def inv4 (b : Fin 16) (hv : v.toNat ≤ 2048) (k : ℕ) : sProp 𝕄 :=
  iprop(slots c X b k (k0_t4_loop v).trips ∗ accIs c (accVal X b v hv k) ∗ owesSome c)

set_option cleanup.letToHave false in
/-- One trip of the loop that waits. -/
theorem trip4 (hv : v.toNat ≤ 2048) (k : Fin (k0_t4_loop v).trips) (u : Unit) :
    inv4 c X v (row b) hv k.val
      ⊢ wp frame (wpE defs₀ Variants.none (c : Thread nD τ) none) Set.univ
          (k0_t4_body (F := F) i (Memref.whole main_arg2) h1 (Memref.whole main_arg1) h2 A3 h3 A4 h4 A5 h5 (Memref.whole cc0_scratch0) h6 cc0_scratch1
            (Memref.whole cc0_scratch2) h8 b v hw (starts F v) (ends F v) k u)
          (fun _ => inv4 c X v (row b) hv (k.val + 1)) := by
  unfold k0_t4_body
  simp only [Prog.bind_lift, Prog.bind_op, Prog.bind_ret, Prog.pure_eq_ret, dif_neg (cond1_ne hv k)]
  unfold inv4 owesSome
  have hs := slots_wait c X (row b) ⟨k.val, t4_lt hv k⟩ (k0_t4_loop v).trips k.2
  iintro ⟨H, Hacc, %W, HO⟩
  ihave H := hs $$ H
  icases H with ⟨Hf, Hback⟩
  iapply (wait_step c X (row b) ⟨k.val, t4_lt hv k⟩ (off8_eq hv k) W) $$ [Hf HO]
  · isplitl [Hf]; · iexact Hf
    iexact HO
  iintro ⟨Hd, Hsem, HO⟩
  unfold slotDone
  icases Hd with ⟨⟨%g, %hg, Hg⟩, Hctx⟩
  unfold accIs
  icases Hacc with ⟨%f, %hf, Hf⟩
  iapply (wp_load_rect Variants.none (c : Thread nD τ) none Set.univ (m := Memref.whole cc0_scratch2) (r := accR) (Finset.subset_univ _)) $$ Hf
  iintro Hf
  iapply (load_step c ⟨k.val, t4_lt hv k⟩ (off11_eq hv k) g) $$ Hg
  iintro Hg
  iapply (wp_load_rect Variants.none (c : Thread nD τ) none Set.univ (m := Memref.whole cc0_scratch2) (r := accR) (Finset.subset_univ _)) $$ Hf
  iintro Hf
  iapply (wp_store Variants.none (c : Thread nD τ) none Set.univ (m := Memref.whole cc0_scratch2) (r := accR)
    (w := k0_pay2 v (starts F v) (ends F v) k (((Memref.whole cc0_scratch2).access accR).read (Elt F) f)
      (((Memref.whole cc0_scratch0).access (slotRect ![k.val, 0, 0] (slot_inb ⟨k.val, t4_lt hv k⟩))).read (Elt F) g)) (Finset.subset_univ _)) $$ Hf
  iintro Hf
  rw [wp_ret]
  imodintro
  isplitl [Hback Hg Hctx Hsem]
  · iapply Hback
    unfold slotFree
    isplitl [Hg]; · iexists _; iexact Hg
    isplitl [Hctx]; · iexact Hctx
    iexact Hsem
  isplitl [Hf]
  · iexists (((Memref.whole cc0_scratch2).access accR).write (Elt F) f (k0_pay2 v (starts F v) (ends F v) k (((Memref.whole cc0_scratch2).access accR).read (Elt F) f)
      (((Memref.whole cc0_scratch0).access (slotRect ![k.val, 0, 0] (slot_inb ⟨k.val, t4_lt hv k⟩))).read (Elt F) g)) Finset.univ)
    isplitr
    · ipureintro
      rw [View.read_write_univ, accVal, dif_pos k.2, hg, hf]
    · iexact Hf
  · iexists _; iexact HO

/-- The loop that waits, at the head of a program. -/
theorem loop4 (hv : v.toNat ≤ 2048) (hok : (k0_t4_loop v).OK) {kk : Unit → Prog (TpuEff nD τ sig (Elt F) Λ₀ .tc) Unit} {Q : Unit → sProp 𝕄} :
    inv4 c X v (row b) hv 0
      ⊢ iprop((inv4 c X v (row b) hv (k0_t4_loop v).trips -∗ wp frame (wpE defs₀ Variants.none (c : Thread nD τ) none) Set.univ (kk ()) Q)
        -∗ wp frame (wpE defs₀ Variants.none (c : Thread nD τ) none) Set.univ
          (Scf.Loop.for (k0_t4_loop v) hok PUnit.unit (k0_t4_body (F := F) i (Memref.whole main_arg2) h1 (Memref.whole main_arg1) h2 A3 h3 A4 h4 A5 h5
            (Memref.whole cc0_scratch0) h6 cc0_scratch1 (Memref.whole cc0_scratch2) h8 b v hw (starts F v) (ends F v)) >>= kk) Q) := by
  exact loop_bind c (k0_t4_loop v) hok _ (inv4 c X v (row b) hv) (trip4 c X i A3 h3 A4 h4 A5 h5 h1 h2 h6 h8 b v hw hv)

end

end Cert.Proof
-- ==== Proof.PoolBody.lean ====
module

public import proofs.«01_k».proof.Proof.PoolLoops

/-!
The pooling kernel's body: over the 16 samples, each one's copies, its accumulation and the block of the result it stores.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (Pipeline.UD sig nD τ) ℕ

section
variable (c : Dev nD) (X : BufTy.Contents (Elt F) (Ref.ty main_arg1))

/-- The first two of three resources change places. -/
theorem sep_swap (A B C : sProp 𝕄) : iprop(A ∗ B ∗ C) = iprop(B ∗ A ∗ C) :=
  Idealize.SL.BI.Entails.antisymm
    (show iprop(A ∗ B ∗ C) ⊢ iprop(B ∗ A ∗ C) by iintro ⟨H1, H2, H3⟩; iframe)
    (show iprop(B ∗ A ∗ C) ⊢ iprop(A ∗ B ∗ C) by iintro ⟨H1, H2, H3⟩; iframe)

/-- What a slot keeps between samples: its elements of the buffer and its semaphore at zero. -/
def slotRest (j : Fin 8) : sProp 𝕄 :=
  iprop((∃ f, (Memref.whole cc0_scratch0).view.loc (c : Thread nD τ) ↦[Sset j]{fullShare} f)
    ∗ semVal ((c : Thread nD τ), .dma (semJ j)) 0)

/-- The context, and what the slots keep: split into the sample's chunks at the slots and the rest of the context. -/
theorem row_eq (b : Fin 16) :
    (iprop(((Memref.whole main_arg1).view.loc (c : Thread nD τ) ↦{fullShare} X) ∗ bigSep Finset.univ (slotRest (F := F) c)) : sProp 𝕄)
      ⊣⊢ iprop(bigSep Finset.univ (slotFree c X b) ∗ ((Memref.whole main_arg1).view.loc (c : Thread nD τ) ↦[Finset.univ \ rowT c b]{fullShare} X)) := by
  have e1 : ((Memref.whole main_arg1).view.loc (c : Thread nD τ) ↦[rowT c b]{fullShare} X : sProp 𝕄)
      = bigSep Finset.univ fun j => (Memref.whole main_arg1).view.loc (c : Thread nD τ) ↦[Tset b j]{fullShare} X :=
    by
      unfold rowT
      exact pointsTo_biUnion (ℓ := ctxLoc c) Finset.univ (Tset b) fun j _ j' _ h => Tset_disj b j j' h
  have e2 : (bigSep Finset.univ (slotFree c X b) : sProp 𝕄)
      = iprop((bigSep Finset.univ fun j => (Memref.whole main_arg1).view.loc (c : Thread nD τ) ↦[Tset b j]{fullShare} X) ∗ bigSep Finset.univ (slotRest (F := F) c)) := by
    rw [← BI.bigSep_sep']
    refine BI.bigSep_congr fun j _ => ?_
    unfold slotFree slotRest
    exact sep_swap _ _ _
  have e3 := pointsTo_split_subset (ℓ := (Memref.whole main_arg1).view.loc (c : Thread nD τ)) (q := fullShare) (f := X) (Finset.subset_univ (rowT c b))
    (Ix := Unit) (Name := ℕ) (U := Pipeline.UD sig nD τ) (Lvl := ℕ)
  rw [e2, ← e1]
  constructor
  · iintro ⟨H1, H2⟩
    ihave H1 := e3.1 $$ H1
    icases H1 with ⟨H1, H3⟩
    iframe
  · iintro ⟨⟨H1, H2⟩, H3⟩
    isplitl [H1 H3]
    · iapply e3.2; isplitl [H1]; · iexact H1
      iexact H3
    · iexact H2

/-- The whole of the projection's weights, of its bias, and one sample's block of the result. -/
abbrev wR : Rect S256x1024 := Rect.unit (s := S256x1024) ![0, 0] S256x1024.size inb_S256x1024_S256x1024_0_0
abbrev bR : Rect S1x256 := Rect.unit (s := S1x256) ![0, 0] S1x256.size inb_S1x256_S1x256_0_0
abbrev outR (b : Fin k0_t1_loop.trips) : Rect S16x24x256 := Rect.unit (s := S16x24x256) (k0_off22 b) S1x24x256.size (k0_off22_inb b)

/-- The count of sample `b` in the table. -/
abbrev cnt (T : BufTy.Contents (Elt F) (Ref.ty main_arg2)) (b : Fin k0_t1_loop.trips) : BitVec 32 :=
  ((Memref.whole main_arg2).access (Rect.unit (s := S16) (k0_off1 b) S1.size (k0_off1_inb b))).read (Elt F) T (Shape.Idx.first (numel1_S1.symm ▸ Nat.one_pos))

variable (i : grid0.Coords) (A3 : Memref sig .tc .vmem S256x1024 .f32) (h3 : A3.IsWhole) (A4 : Memref sig .tc .vmem S1x256 .f32) (h4 : A4.IsWhole)
  (A5 : Memref sig .tc .vmem S16x24x256 .f32) (h5 : A5.IsWhole) (h1 : (Memref.whole main_arg2 : Memref sig .tc .smem S16 .i32).IsWhole)
  (h2 : (Memref.whole main_arg1 : Memref sig .tc .hbm S16x2048x1024 .f32).IsWhole)
  (h6 : (Memref.whole cc0_scratch0 : Memref sig .tc .vmem S8x256x1024 .f32).IsWhole)
  (h8 : (Memref.whole cc0_scratch2 : Memref sig .tc .vmem S24x1024 .f32).IsWhole)
variable (T : BufTy.Contents (Elt F) (Ref.ty main_arg2)) (hT : ∀ b, (cnt T b).toNat ≤ 2048)
  (f3 : BufTy.Contents (Elt F) A3.view.ty) (f4 : BufTy.Contents (Elt F) A4.view.ty)

/-- The block of the result the kernel stores for sample `b`. -/
def rowOut (w3 : S256x1024.Idx → Elt F .f32) (w4 : S1x256.Idx → Elt F .f32) (b : Fin k0_t1_loop.trips) : S1x24x256.Idx → Elt F .f32 :=
  k0_pay4 (cnt T b) (starts F (cnt T b)) (ends F (cnt T b)) (accVal X (row b) (cnt T b) (hT b) (k0_t4_loop (cnt T b)).trips) w3 w4

/-- Before sample `n`: the blocks of the samples before it are stored. -/
def inv1 (n : ℕ) : sProp 𝕄 :=
  iprop(((Memref.whole main_arg2).view.loc (c : Thread nD τ) ↦{fullShare} T) ∗ (A3.view.loc (c : Thread nD τ) ↦{fullShare} f3)
    ∗ (A4.view.loc (c : Thread nD τ) ↦{fullShare} f4)
    ∗ (∃ g : BufTy.Contents (Elt F) A5.view.ty, ⌜∀ b : Fin k0_t1_loop.trips, b.val < n → (A5.access (outR b)).read (Elt F) g
          = rowOut X T hT ((A3.access wR).read (Elt F) f3) ((A4.access bR).read (Elt F) f4) b⌝ ∗ (A5.view.loc (c : Thread nD τ) ↦{fullShare} g))
    ∗ ((Memref.whole main_arg1).view.loc (c : Thread nD τ) ↦{fullShare} X) ∗ bigSep Finset.univ (slotRest (F := F) c)
    ∗ (∃ w, accIs c w) ∗ owesSome c)

/-- Where a sample's row of the result lies. -/
theorem outR_off (b : Fin k0_t1_loop.trips) : k0_off22 b = ![b.val, 0, 0] := off22_eq b

/-- Two samples' blocks of the result have no element in common. -/
theorem outR_disj (b b' : Fin k0_t1_loop.trips) (h : b ≠ b') : Disjoint (outR b).set (outR b').set := by
  rw [Finset.disjoint_left]
  intro i hi hi'
  have h1 := (Rect.mem_set_unit.mp hi) 0
  have h2 := (Rect.mem_set_unit.mp hi') 0
  rw [outR_off] at h1 h2
  have h1' : b.val ≤ (i 0).val ∧ (i 0).val < b.val + 1 := h1
  have h2' : b'.val ≤ (i 0).val ∧ (i 0).val < b'.val + 1 := h2
  exact h (Fin.ext (by omega))

set_option cleanup.letToHave false in
/-- One sample. -/
theorem trip1 (b : Fin k0_t1_loop.trips) (u : Unit) :
    inv1 c X A3 A4 A5 T hT f3 f4 b.val
      ⊢ wp frame (wpE defs₀ Variants.none (c : Thread nD τ) none) Set.univ
          (k0_t1_body (F := F) i (Memref.whole main_arg2) h1 (Memref.whole main_arg1) h2 A3 h3 A4 h4 A5 h5 (Memref.whole cc0_scratch0) h6 cc0_scratch1
            (Memref.whole cc0_scratch2) h8 (iota .tc S24x1 32 [0] iota_S24x1_d0_w32) b u)
          (fun _ => inv1 c X A3 A4 A5 T hT f3 f4 (b.val + 1)) := by
  have hv := hT b
  have hchk : k0_chk1 b (cnt T b) := chk hv b
  unfold k0_t1_body
  rw [k0_part1_eq_skeleton]
  unfold k0_part1_skel smemLoad
  unfold inv1
  iintro ⟨HT, H3, H4, ⟨%g, %hg, H5⟩, HX, Hs, ⟨%w, Hacc⟩, HO⟩
  obtain ⟨_, l3, _, l5, _, _⟩ := loopWords hv
  simp only [Prog.bind_lift, Prog.bind_op, Prog.bind_ret, Prog.pure_eq_ret, smemLoadElt, bind_assoc]
  iapply (wp_load_rect Variants.none (c : Thread nD τ) none Set.univ (m := Memref.whole main_arg2)
    (r := Rect.unit (s := S16) (k0_off1 b) S1.size (k0_off1_inb b)) (Finset.subset_univ _)) $$ HT
  iintro HT
  iapply (wp_assume Variants.none (c : Thread nD τ) none Set.univ hchk)
  -- the copies are started
  ihave Hrow := (row_eq c X (row b)).1 $$ [HX Hs]
  · isplitl [HX]; · iexact HX
    iexact Hs
  icases Hrow with ⟨Hs, HX⟩
  iapply (Scf.wp_for_bind _ _ _ _ _ _ _ _ _ (fun k _ => slots c X (row b) 0 k)
    (fun k u => trip2 c X i A3 h3 A4 h4 A5 h5 h1 h2 h6 h8 b (cnt T b) hchk hv _ _ _ k u)) $$ [Hs]
  · rw [slots_none]; iexact Hs
  iintro %_ Hs
  iapply (Scf.wp_for_bind _ _ _ _ _ _ _ _ _ (fun _ _ => slots c X (row b) 0 (k0_t2_loop (cnt T b)).trips)
    (fun k _ => (Fin.elim0 (k.cast l3)))) $$ [Hs]
  · iexact Hs
  iintro %_ Hs
  -- the accumulator is cleared
  unfold accIs
  icases Hacc with ⟨%f, -, Hf⟩
  iapply (wp_load_rect Variants.none (c : Thread nD τ) none Set.univ (m := Memref.whole cc0_scratch2) (r := accR) (Finset.subset_univ _)) $$ Hf
  iintro Hf
  iapply (wp_store Variants.none (c : Thread nD τ) none Set.univ (m := Memref.whole cc0_scratch2) (r := accR)
    (w := k0_pay1 (k0_pay7 (F := F))) (Finset.subset_univ _)) $$ Hf
  iintro Hf
  -- the copies are waited for
  have e24 : (k0_t2_loop (cnt T b)).trips = (k0_t4_loop (cnt T b)).trips := (t2_trips hv).trans (t4_trips hv).symm
  iapply (loop4 c X i A3 h3 A4 h4 A5 h5 h1 h2 h6 h8 b (cnt T b) hchk hv (k0_t4_ok b (cnt T b) hchk)) $$ [Hs Hf HO]
  · unfold inv4 accIs
    rw [← e24]
    isplitl [Hs]; · iexact Hs
    isplitl [Hf]
    · iexists (((Memref.whole cc0_scratch2).access accR).write (Elt F) f (k0_pay1 (k0_pay7 (F := F))) Finset.univ)
      isplitr
      · ipureintro; rw [View.read_write_univ]; rfl
      · iexact Hf
    · iexact HO
  iintro HI
  iapply (Scf.wp_for_bind _ _ _ _ _ _ _ _ _ (fun _ _ => inv4 c X (cnt T b) (row b) hv (k0_t4_loop (cnt T b)).trips)
    (fun k _ => (Fin.elim0 (k.cast l5)))) $$ [HI]
  · iexact HI
  iintro %_ HI
  unfold inv4 accIs
  icases HI with ⟨Hs, ⟨%a, %ha, Ha⟩, HO⟩
  ihave Hs := (show _ ⊢ _ from Entails.of_eq (slots_none c X (row b) (k0_t4_loop (cnt T b)).trips)) $$ Hs
  -- the block is stored
  iapply (wp_load_rect Variants.none (c : Thread nD τ) none Set.univ (m := Memref.whole cc0_scratch2) (r := accR) (Finset.subset_univ _)) $$ Ha
  iintro Ha
  iapply (wp_load_rect Variants.none (c : Thread nD τ) none Set.univ (m := A3) (r := wR) (Finset.subset_univ _)) $$ H3
  iintro H3
  iapply (wp_load_rect Variants.none (c : Thread nD τ) none Set.univ (m := A4) (r := bR) (Finset.subset_univ _)) $$ H4
  iintro H4
  iapply (wp_load_rect Variants.none (c : Thread nD τ) none Set.univ (m := A5) (r := outR b) (Finset.subset_univ _)) $$ H5
  iintro H5
  iapply (wp_store Variants.none (c : Thread nD τ) none Set.univ (m := A5) (r := outR b)
    (w := k0_pay4 (cnt T b) (starts F (cnt T b)) (ends F (cnt T b)) (((Memref.whole cc0_scratch2).access accR).read (Elt F) a)
      ((A3.access wR).read (Elt F) f3) ((A4.access bR).read (Elt F) f4)) (Finset.subset_univ _)) $$ H5
  iintro H5
  rw [wp_ret]
  imodintro
  ihave Hrow := (row_eq c X (row b)).2 $$ [HX Hs]
  · isplitl [Hs]; · iexact Hs
    iexact HX
  icases Hrow with ⟨HX, Hs⟩
  isplitl [HT]; · iexact HT
  isplitl [H3]; · iexact H3
  isplitl [H4]; · iexact H4
  isplitl [H5]
  · iexists ((A5.access (outR b)).write (Elt F) g (k0_pay4 (cnt T b) (starts F (cnt T b)) (ends F (cnt T b))
      (((Memref.whole cc0_scratch2).access accR).read (Elt F) a) ((A3.access wR).read (Elt F) f3) ((A4.access bR).read (Elt F) f4)) Finset.univ)
    isplitr
    · ipureintro
      intro b' hb'
      by_cases e : b' = b
      · subst e
        rw [View.read_write_univ, ha]; rfl
      · rw [View.read_slice_write_slice_of_disjoint _ _ _ _ _ (by
          rw [View.setOn_univ, View.set_slice, View.set_slice, Finset.disjoint_map]; exact outR_disj b' b e)]
        exact hg b' (lt_of_le_of_ne (Nat.lt_succ_iff.mp hb') fun h => e (Fin.ext h))
    · iexact H5
  isplitl [HX]; · iexact HX
  isplitl [Hs]; · iexact Hs
  isplitl [Ha]
  · iexists _; iexists a
    isplitr
    · ipureintro; rfl
    · iexact Ha
  · iexact HO

/-- The body: from the buffers it is given to the result's blocks of all sixteen samples. -/
theorem body_run :
    inv1 c X A3 A4 A5 T hT f3 f4 0
      ⊢ wp frame (wpE defs₀ Variants.none (c : Thread nD τ) none) Set.univ
          (cc0__pool_body (F := F) i (Memref.whole main_arg2) h1 (Memref.whole main_arg1) h2 A3 h3 A4 h4 A5 h5 (Memref.whole cc0_scratch0) h6 cc0_scratch1
            (Memref.whole cc0_scratch2) h8)
          (fun _ => inv1 c X A3 A4 A5 T hT f3 f4 16) := by
  rw [cc0__pool_body_eq_skeleton]
  unfold cc0__pool_body_skel
  iintro H
  iapply (Scf.wp_for_bind _ _ _ _ _ _ _ _ _ (fun k _ => inv1 c X A3 A4 A5 T hT f3 f4 k)
    (fun k u => trip1 c X i A3 h3 A4 h4 A5 h5 h1 h2 h6 h8 T hT f3 f4 k u)) $$ H
  iintro %_ H
  rw [Prog.pure_eq_ret, wp_ret]
  imodintro
  iexact H

end

end Cert.Proof
-- ==== Proof.PoolRegion.lean ====
module

public import proofs.«01_k».proof.Proof.PoolBody
public import Idealize.ShloMosaic.Lib.Pipeline.RegionArraysT
public import Idealize.ShloMosaic.Lib.Pipeline.RegionsLoop
public import Idealize.ShloMosaic.Lib.Pipeline.FrameBody
public import Idealize.ShloMosaic.Lib.ValueIdxCore

/-!
The pooling kernel's launch: what it stores, its proof data, and the launch as a region of the program.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (X : BufTy.Contents (Elt F) (Ref.ty main_arg1)) (T : BufTy.Contents (Elt F) (Ref.ty main_arg2)) (hT : ∀ b, (cnt T b).toNat ≤ 2048)
  (w3 : S256x1024.Idx → Elt F .f32) (w4 : S1x256.Idx → Elt F .f32)

/-- The result of the pooling kernel: sample by sample, the block stored for it. -/
def poolOut : S16x24x256.Idx → Elt F .f32 := fun i => rowOut X T hT w3 w4 ⟨(i 0).val, (i 0).2⟩ (ValueIdx.ix3 (0 : Fin 1) (i 1) (i 2))

/-- Contents whose every sample's block is the one stored for it are the kernel's result. -/
theorem eq_poolOut (g : S16x24x256.Idx → Elt F .f32)
    (hg : ∀ b : Fin k0_t1_loop.trips, ((Memref.whole cc0_stg2_0).access (outR b)).read (Elt F) g = rowOut X T hT w3 w4 b) :
    g = poolOut X T hT w3 w4 := by
  funext i
  unfold poolOut
  rw [← hg]
  show g i = g _
  congr 1
  funext a
  apply Fin.ext
  let b : Fin k0_t1_loop.trips := ⟨(i 0).val, (i 0).2⟩
  have e : k0_off22 b = ![(i 0).val, 0, 0] := outR_off b
  fin_cases a
  · show (i 0).val = k0_off22 b 0 + 1 * 0
    rw [e]; simp
  · show (i 1).val = k0_off22 b 1 + 1 * (i 1).val
    rw [e]; simp
  · show (i 2).val = k0_off22 b 2 + 1 * (i 2).val
    rw [e]; simp

/-- The whole of the weights' buffer is its contents. -/
theorem read_wR (f : S256x1024.Idx → Elt F .f32) : ((Memref.whole cc0_stg0_0).access wR).read (Elt F) f = f := by
  funext i
  show f _ = f i
  congr 1
  funext a
  apply Fin.ext
  fin_cases a
  · show 0 + 1 * (i 0).val = _; simp
  · show 0 + 1 * (i 1).val = _; simp

/-- The whole of the bias's buffer is its contents. -/
theorem read_bR (f : S1x256.Idx → Elt F .f32) : ((Memref.whole cc0_stg1_0).access bR).read (Elt F) f = f := by
  funext i
  show f _ = f i
  congr 1
  funext a
  apply Fin.ext
  fin_cases a
  · show 0 + 1 * (i 0).val = _; simp
  · show 0 + 1 * (i 1).val = _; simp

end

/-- The copies' semaphores, one a slot. -/
def osem0 (j : Fin 8) : SemLoc sig := .dma (semJ j)

/-- The eight copy semaphores belong to the launch alone. -/
theorem ownSemFacts0 : Pipeline.OwnSemFacts spec0 osem0 := by decide

section
variable (c : Dev nD)

/-- The slots between samples are the slots' buffer at something and the copies' semaphores at zero. -/
theorem slots_eq (f₀ : Buf (Elt F) ((c : Thread nD τ).loc cc0_scratch0)) :
    (iprop((∃ f : Buf (Elt F) ((c : Thread nD τ).loc cc0_scratch0), ((c : Thread nD τ).loc cc0_scratch0) ↦{fullShare} f)
        ∗ Pipeline.ownSems0 (Ix := Unit) (Name := ℕ) (U := Pipeline.UD sig nD τ) (Lvl := ℕ) (Val := Elt F) (τ := τ) osem0 c) : sProp 𝕄)
      ⊣⊢ bigSep Finset.univ (slotRest (F := F) c) := by
  have e : (bigSep Finset.univ (slotRest (F := F) c) : sProp 𝕄)
      = iprop((bigSep Finset.univ fun j : Fin 8 => iprop(∃ f : Buf (Elt F) ((c : Thread nD τ).loc cc0_scratch0), ((c : Thread nD τ).loc cc0_scratch0) ↦[Sset j]{fullShare} f))
        ∗ Pipeline.ownSems0 (Ix := Unit) (Name := ℕ) (U := Pipeline.UD sig nD τ) (Lvl := ℕ) (Val := Elt F) (τ := τ) osem0 c) := by
    unfold Pipeline.ownSems0
    rw [← BI.bigSep_sep']
    rfl
  rw [e]
  constructor
  · iintro ⟨⟨%f, H⟩, Hs⟩
    isplitl [H]
    · ihave H := (show _ ⊢ _ from Entails.of_eq (Ring.pointsTo_blocks (ℓ := (c : Thread nD τ).loc cc0_scratch0) Sset Sset_disj Sset_cover f)) $$ H
      iapply (show (bigSep Finset.univ (fun j : Fin 8 => ((c : Thread nD τ).loc cc0_scratch0) ↦[Sset j]{fullShare} f) : sProp 𝕄)
        ⊢ bigSep Finset.univ fun j : Fin 8 => iprop(∃ f : Buf (Elt F) ((c : Thread nD τ).loc cc0_scratch0), ((c : Thread nD τ).loc cc0_scratch0) ↦[Sset j]{fullShare} f) from
        BI.bigSep_mono fun j _ => show iprop(((c : Thread nD τ).loc cc0_scratch0) ↦[Sset j]{fullShare} f) ⊢ (_ : sProp 𝕄) by iintro H; iexists f; iexact H) $$ H
    · iexact Hs
  · iintro ⟨H, Hs⟩
    isplitl [H]
    · iapply (Ring.pointsTo_blocks_join_exists (ℓ := (c : Thread nD τ).loc cc0_scratch0) Sset Sset_disj Sset_cover f₀) $$ H
    · iexact Hs

end

section
variable (a : (p : Fin 2) → (pcfgs (F := F) p).Adm)
variable (V : (c : Dev nD) → (b : Ref sig .tc) → Buf (Elt F) ((c : Thread nD τ).loc b))

/-- The counts the launch's table holds. -/
abbrev tab : BufTy.Contents (Elt F) (Ref.ty main_arg2) := (a 0).1 (0 : Fin 1)

variable (hT : ∀ b, (cnt (tab a) b).toNat ≤ 2048)

/-- The projection's weights and bias as the launch stages them. -/
abbrev stgW (c : Dev nD) : S256x1024.Idx → Elt F .f32 := ((cfg0 (a 0)).win 0 |>.blk t0_0).view.read (Elt F) (V c main_arg3)
abbrev stgB (c : Dev nD) : S1x256.Idx → Elt F .f32 := ((cfg0 (a 0)).win 1 |>.blk t0_0).view.read (Elt F) (V c main_v0)

/-- The kernel's result at an entry valuation. -/
abbrev pooledAt (c : Dev nD) : S16x24x256.Idx → Elt F .f32 := poolOut (V c main_arg1) (tab a) hT (stgW a V c) (stgB a V c)

/-- What enters the launch beside its windows: the context, and the copies' semaphores at zero. -/
def X0 (c : Dev nD) : sProp 𝕄 :=
  iprop((((c : Thread nD τ).loc main_arg1) ↦{fullShare} V c main_arg1)
    ∗ Pipeline.ownSems0 (Ix := Unit) (Name := ℕ) (U := Pipeline.UD sig nD τ) (Lvl := ℕ) (Val := Elt F) (τ := τ) osem0 c)

/-- What the launch keeps at its ends: that, the table, and the buffers no window stages. -/
def Φ0 (c : Dev nD) : sProp 𝕄 :=
  iprop(X0 V c ∗ Pipeline.prefHeld (pcfgs (F := F) 0).pre c (fun _ => fullShare) (a 0).1
    ∗ Pipeline.scopedRest (Ix := Unit) (Name := ℕ) (U := Pipeline.UD sig nD τ) (Lvl := ℕ) (Val := Elt F) spec0 c)

/-- The launch's proof data: the arrays at the entry valuation, the inputs' buffers as staged, the result's at the kernel's result. -/
def dat0 (c : Dev nD) : Dat τ (Elt F) Unit ℕ (Pipeline.UD sig nD τ) ℕ (cfg0 (a 0)) c where
  A w := V c (Pipeline.arrRef spec0 w)
  after w _ := match w with
    | ⟨0, _⟩ => stgW a V c
    | ⟨1, _⟩ => stgB a V c
    | ⟨2, _⟩ => pooledAt a V hT c
  Φ _ := Φ0 a V c
  q _ := fullShare
  owed _ := 0

/-- The weights' staging at the one point holds their block, -/
theorem before_W (c : Dev nD) (d : ((cfg0 (a 0)).win 0).block.Idx → Elt F ((cfg0 (a 0)).win 0).elt) : (dat0 a V hT c).before 0 t0_0 d = stgW a V c := by
  unfold Dat.before; exact if_pos (show ((cfg0 (a 0)).win 0).fetch t0_0 = true from rfl)

/-- and the bias's holds its own. -/
theorem before_B (c : Dev nD) (d : ((cfg0 (a 0)).win 1).block.Idx → Elt F ((cfg0 (a 0)).win 1).elt) : (dat0 a V hT c).before 1 t0_0 d = stgB a V c := by
  unfold Dat.before; exact if_pos (show ((cfg0 (a 0)).win 1).fetch t0_0 = true from rfl)

/-- The table held is its one buffer held at the counts. -/
theorem pref_eq (c : Dev nD) : (Pipeline.prefHeld (pcfgs (F := F) 0).pre c (fun _ => fullShare) (a 0).1 : sProp 𝕄)
    = iprop(((c : Thread nD τ).loc main_arg2) ↦{fullShare} tab a) := by
  unfold Pipeline.prefHeld
  rw [show (Finset.univ : Finset (Fin 1)) = {0} from rfl, BI.bigSep_singleton]
  rfl

/-- The launch's one body, from what the launch holds before it to what it holds after. -/
theorem body_triple0 (c : Dev nD) :
    iprop(Φ0 a V c ∗ owesSome (F := F) c ∗ owns (c : Thread nD τ) (Memref.whole cc0_stg0_0) fullShare (stgW a V c)
        ∗ owns (c : Thread nD τ) (Memref.whole cc0_stg1_0) fullShare (stgB a V c) ∗ (∃ d, owns (c : Thread nD τ) (Memref.whole cc0_stg2_0) fullShare d))
      ⊢ wp frame (wpE (defs₀ (F := F)) Variants.none (c : Thread nD τ) none) Set.univ
          (cc0__pool_body (F := F) (grid0.coords t0_0) (Memref.whole main_arg2) (Memref.isWhole_whole _) (Memref.whole main_arg1) (Memref.isWhole_whole _)
            (Memref.whole cc0_stg0_0) (Memref.isWhole_whole _) (Memref.whole cc0_stg1_0) (Memref.isWhole_whole _) (Memref.whole cc0_stg2_0) (Memref.isWhole_whole _)
            (Memref.whole cc0_scratch0) (Memref.isWhole_whole _) cc0_scratch1 (Memref.whole cc0_scratch2) (Memref.isWhole_whole _))
          (fun _ => iprop(Φ0 a V c ∗ owesSome (F := F) c ∗ owns (c : Thread nD τ) (Memref.whole cc0_stg0_0) fullShare (stgW a V c)
            ∗ owns (c : Thread nD τ) (Memref.whole cc0_stg1_0) fullShare (stgB a V c)
            ∗ owns (c : Thread nD τ) (Memref.whole cc0_stg2_0) fullShare (pooledAt a V hT c))) := by
  have hrun := body_run c (V c main_arg1) (grid0.coords t0_0) (Memref.whole cc0_stg0_0) (Memref.isWhole_whole _) (Memref.whole cc0_stg1_0) (Memref.isWhole_whole _)
    (Memref.whole cc0_stg2_0) (Memref.isWhole_whole _) (Memref.isWhole_whole _) (Memref.isWhole_whole _) (Memref.isWhole_whole _) (Memref.isWhole_whole _)
    (tab a) hT (stgW a V c) (stgB a V c)
  simp only [owns_whole_eq]
  unfold Φ0 X0
  rw [pref_eq, scopedRest0_eq]
  iintro ⟨⟨⟨HX, Hsem⟩, HT, ⟨%fs, Hs⟩, ⟨%fa, Ha⟩, Hrest⟩, HO, ⟨%f0, %hf0, H0⟩, ⟨%f1, %hf1, H1⟩, ⟨%d2, %f2, -, H2⟩⟩
  subst hf0 hf1
  ihave Hsl := (slots_eq c fs).1 $$ [Hs Hsem]
  · isplitl [Hs]
    · iexists fs; iexact Hs
    · iexact Hsem
  iapply (wp_wand frame (wpE (defs₀ (F := F)) Variants.none (c : Thread nD τ) none) Set.univ) $$ [HX HT Hsl Ha HO H0 H1 H2]
  · iapply hrun
    unfold inv1
    isplitl [HT]; · iexact HT
    isplitl [H0]; · iexact H0
    isplitl [H1]; · iexact H1
    isplitl [H2]
    · iexists f2; isplitr; · ipureintro; intro b h; exact absurd h (Nat.not_lt_zero _)
      iexact H2
    isplitl [HX]; · iexact HX
    isplitl [Hsl]; · iexact Hsl
    isplitl [Ha]
    · unfold accIs; iexists _, fa; isplitr; · ipureintro; rfl
      iexact Ha
    iexact HO
  · iintro %_ H
    unfold inv1
    icases H with ⟨HT, H0, H1, ⟨%g, %hg, H2⟩, HX, Hsl, ⟨%w, Ha⟩, HO⟩
    unfold accIs
    icases Ha with ⟨%fa', -, Ha⟩
    ihave Hs := (slots_eq c fs).2 $$ Hsl
    icases Hs with ⟨⟨%fs', Hs⟩, Hsem⟩
    isplitl [HX Hsem HT Hs Ha Hrest]
    · isplitl [HX Hsem]
      · isplitl [HX] <;> iassumption
      isplitl [HT]; · iexact HT
      isplitl [Hs]; · iexists fs'; iexact Hs
      isplitl [Ha]; · iexists fa'; iexact Ha
      iexact Hrest
    isplitl [HO]; · iexact HO
    isplitl [H0]; · iexists _; isplitr; swap; (· iexact H0); ipureintro; rfl
    isplitl [H1]; · iexists _; isplitr; swap; (· iexact H1); ipureintro; rfl
    iexists g; isplitr; swap; (· iexact H2); ipureintro
    refine eq_poolOut _ _ hT _ _ g fun b => (hg b b.2).trans ?_
    rw [read_wR, read_bR]

set_option backward.isDefEq.respectTransparency.types false in
/-- The body meets its obligation. -/
theorem body_obligation0 (c : Dev nD) : BodyObligation (dat0 a V hT c) (defs₀ (F := F)) Variants.none () Set.univ := fun t => by
  obtain rfl := fin_N0 t
  rw [bigSep_W0, bigSep_W0, show (dat0 a V hT c).Φ t0_0.castSucc = Φ0 a V c from rfl, show (dat0 a V hT c).Φ t0_0.succ = Φ0 a V c from rfl]
  refine triple_restated (body_triple0 a V hT c) rfl ?_ ?_
  · refine sep_mono .rfl (sep_mono ?_ (sep_mono (exists_elim fun d => ?_) (sep_mono (exists_elim fun d => ?_) (exists_elim fun d => ?_))))
    · unfold Dat.owesAt Pipeline.owesWithin owesSome
      iintro ⟨%W, -, HO⟩; iexists W; iexact HO
    · exact Entails.of_eq (congrArg (owns (c : Thread nD τ) (Memref.whole cc0_stg0_0) fullShare) (before_W a V hT c d))
    · exact Entails.of_eq (congrArg (owns (c : Thread nD τ) (Memref.whole cc0_stg1_0) fullShare) (before_B a V hT c d))
    · exact exists_intro (Φ := fun d => owns (c : Thread nD τ) (Memref.whole cc0_stg2_0) fullShare d) _
  · intro _
    unfold Dat.owesAt Pipeline.owesWithin owesSome
    iintro ⟨HΦ, ⟨%W, HO⟩, H0, H1, H2⟩
    isplitl [HΦ]; · iexact HΦ
    isplitl [HO]
    · iexists W; isplitr; · ipureintro; exact fun _ _ => Or.inl trivial
      iexact HO
    isplitl [H0]; · iexact H0
    isplitl [H1]; · iexact H1
    iexact H2

/-- The proof data of the program's two launches. -/
def pdats (D0 : (c : Dev nD) → Dat τ (Elt F) Unit ℕ (Pipeline.UD sig nD τ) ℕ (cfg0 (a 0)) c)
    (D1 : (c : Dev nD) → Dat τ (Elt F) Unit ℕ (Pipeline.UD sig nD τ) ℕ (Pipeline.pin (pcfgs (F := F)) a 1) c) :
    (p : Fin 2) → (c : Dev nD) → Dat τ (Elt F) Unit ℕ (Pipeline.UD sig nD τ) ℕ (Pipeline.pin (pcfgs (F := F)) a p) c
  | ⟨0, _⟩ => D0
  | ⟨1, _⟩ => D1

/-- No core waits for another: no level is assigned. -/
abbrev L : GSem nD τ sig → Finset Unit := fun _ => ∅
abbrev lv : GSem nD τ sig → Unit → ℕ := fun _ _ => 0

variable (D1 : (c : Dev nD) → Dat τ (Elt F) Unit ℕ (Pipeline.UD sig nD τ) ℕ (Pipeline.pin (pcfgs (F := F)) a 1) c)
variable (Vp : (c : Dev nD) → (b : Ref sig .tc) → Buf (Elt F) ((c : Thread nD τ).loc b))

/-- The unscoped buffers the launch does not touch, beside the context. -/
def rest0 (c : Dev nD) : sProp 𝕄 :=
  iprop(((c : Thread nD τ).loc main_arg1 ↦{fullShare} V c main_arg1) -∗
    Pipeline.unscopedRestP (Ix := Unit) (Name := ℕ) (U := Pipeline.UD sig nD τ) (Lvl := ℕ) pre0 spec0 c (V c))

/-- The context taken out of them. -/
theorem rest0_split (c : Dev nD) :
    (Pipeline.unscopedRestP (Ix := Unit) (Name := ℕ) (U := Pipeline.UD sig nD τ) (Lvl := ℕ) pre0 spec0 c (V c) : sProp 𝕄)
      ⊢ iprop((((c : Thread nD τ).loc main_arg1) ↦{fullShare} V c main_arg1) ∗ rest0 V c) := by
  unfold rest0
  rw [unscopedRestP0_eq]
  iintro ⟨H0, H1, Hrest⟩
  isplitl [H1]; · iexact H1
  iintro H1
  isplitl [H0]; · iexact H0
  isplitl [H1]; · iexact H1
  iexact Hrest

set_option backward.isDefEq.respectTransparency.types false in
/-- The launch as a region: entered with every unscoped buffer at `V`, left with them at `Vp`, which is `V` but for the result. -/
def reg0 (htab : ∀ c, V c main_arg2 = tab a) (hVp_out : ∀ c, Vp c main_v1 = (dat0 a V hT c).arrAt 2 (cfg0 (a 0)).N)
    (hVp_ne : ∀ c (b : Ref sig .tc), b ≠ main_v1 → Vp c b = V c b) :
    Pipeline.RegionSeg (pcfgs (F := F)) a (pdats a (dat0 a V hT) D1) () defs₀ Variants.none L lv 0 where
  win := (launch0 (F := F)).win.to₀
  block_pos := (launch0 (F := F)).block_pos
  stage_whole := (launch0 (F := F)).stage_whole
  K := Fin 8
  osem := osem0
  ho := ownSemFacts0
  hbody c := (body_obligation0 a V hT c).loose
  hwaits := Pipeline.hwaits_of_owed_zero _ _ _ _ L lv 0 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X c := X0 V c
  Y c := iprop((((c : Thread nD τ).loc main_arg1) ↦{fullShare} V c main_arg1) ∗ Pipeline.prefHeld (pcfgs (F := F) 0).pre c (fun _ => fullShare) (a 0).1)
  Z c := rest0 V c
  hentry c := by
    have hsplit := Pipeline.arrays_of_unscopedBufs (p := 0) (pcfgs (F := F)) a (pdats a (dat0 a V hT) D1) (launch0 (F := F)).win (launch0 (F := F)).arr_whole c
      ((pdats a (dat0 a V hT) D1 0 c).share_full fun _ => rfl) (V c) fun _ => rfl
    have hrest := Pipeline.unscopedRest_split (Ix := Unit) (Name := ℕ) (U := Pipeline.UD sig nD τ) (Lvl := ℕ) preFacts0 c (V c)
    have htab' : (fun k => V c (pre0.ref k)) = (a 0).1 := funext fun k => by
      obtain rfl : k = (0 : Fin 1) := Subsingleton.elim _ _
      exact htab c
    rw [htab'] at hrest
    iintro ⟨⟨Hub, ⟨%W, HO⟩⟩, Hsem, -⟩
    ihave H := hsplit $$ Hub
    icases H with ⟨Ha, Hrest⟩
    ihave Hrest := (show _ ⊢ _ from Entails.of_eq hrest) $$ Hrest
    icases Hrest with ⟨HT, Hrest⟩
    imodintro
    isplitl [Ha]; · iexact Ha
    isplitl [HT]; · iexact HT
    isplitl [HO]
    · unfold Pipeline.Dat.owesAt Pipeline.owesWithin
      iexists W; isplitr; · ipureintro; exact fun _ _ => Or.inl trivial
      iexact HO
    ihave Hrest := (rest0_split V c) $$ Hrest
    icases Hrest with ⟨H1, Hrest⟩
    unfold X0
    isplitl [H1 Hsem]
    · isplitl [H1] <;> iassumption
    iexact Hrest
  hin c := by
    exact .rfl
  hout c := by
    rw [show (pdats a (dat0 a V hT) D1 0 c).Φ (Fin.last _) = Φ0 a V c from rfl]
    unfold Φ0 X0
    iintro ⟨⟨H1, Hsem⟩, HT, Hr⟩
    isplitl [H1 HT]
    · isplitl [H1]; · iexact H1
      iexact HT
    isplitl [Hsem]; · iexact Hsem
    iexact Hr
  hexit c := by
    have hjoin := Pipeline.unscopedBufs_of_arrays (p := 0) (pcfgs (F := F)) a (Ix := Unit) (Name := ℕ) (U := Pipeline.UD sig nD τ) (Lvl := ℕ) (launch0 (F := F)).win (launch0 (F := F)).arr_whole c
      (pdats a (dat0 a V hT) D1) ((pdats a (dat0 a V hT) D1 0 c).share_full fun _ => rfl) (V c) (Vp c) ((pdats a (dat0 a V hT) D1 0 c).arrAt · (cfg0 (a 0)).N)
      (fun w => by
        fin_cases w
        · exact ((dat0 a V hT c).arrAt_in 0 rfl _).trans (hVp_ne c main_arg3 (by decide)).symm
        · exact ((dat0 a V hT c).arrAt_in 1 rfl _).trans (hVp_ne c main_v0 (by decide)).symm
        · exact (hVp_out c).symm)
      (fun b hb => hVp_ne c b fun h => hb (h ▸ Finset.mem_image.mpr ⟨2, Finset.mem_univ _, rfl⟩))
    have hrest := Pipeline.unscopedRest_split (Ix := Unit) (Name := ℕ) (U := Pipeline.UD sig nD τ) (Lvl := ℕ) preFacts0 c (V c)
    have htab' : (fun k => V c (pre0.ref k)) = (a 0).1 := funext fun k => by
      obtain rfl : k = (0 : Fin 1) := Subsingleton.elim _ _
      exact htab c
    rw [htab'] at hrest
    unfold rest0
    iintro ⟨Ha, HO, ⟨H1, HT⟩, Hrest⟩
    ihave Hrest := Hrest $$ H1
    ihave Hr := (show _ ⊢ _ from Entails.of_eq hrest.symm) $$ [HT Hrest]
    · isplitl [HT]; · iexact HT
      iexact Hrest
    imodintro
    isplitl [Ha Hr]
    · iapply hjoin; isplitl [Ha] <;> iassumption
    unfold Pipeline.Dat.owesAt Pipeline.owesWithin
    icases HO with ⟨%W, -, HO⟩; iexists W; iexact HO

end

end Cert.Proof
-- ==== Proof.MlpBody.lean ====
module

public import proofs.«01_k».proof.Proof.PoolBody

/-!
The classifier kernel's body at one point of its grid.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

/-- The whole of the accumulator, of the inputs' blocks and of the result. -/
abbrev hR : Rect S16x1024 := Rect.unit (s := S16x1024) ![0, 0] S16x1024.size inb_S16x1024_S16x1024_0_0
abbrev xR : Rect S16x1792 := Rect.unit (s := S16x1792) ![0, 0] S16x1792.size inb_S16x1792_S16x1792_0_0
abbrev w1R : Rect S1024x1792 := Rect.unit (s := S1024x1792) ![0, 0] S1024x1792.size inb_S1024x1792_S1024x1792_0_0
abbrev b1R : Rect S1x1024 := Rect.unit (s := S1x1024) ![0, 0] S1x1024.size inb_S1x1024_S1x1024_0_0
abbrev w2R : Rect S2x1024 := Rect.unit (s := S2x1024) ![0, 0] S2x1024.size inb_S2x1024_S2x1024_0_0
abbrev b2R : Rect S1x2 := Rect.unit (s := S1x2) ![0, 0] S1x2.size inb_S1x2_S1x2_0_0
abbrev oR : Rect S16x2 := Rect.unit (s := S16x2) ![0, 0] S16x2.size inb_S16x2_S16x2_0_0

/-- The first point's condition. -/
def isFirst (i : grid1.Coords) : BitVec 1 :=
  Scalar.cmpi .ne (Scalar.extui (Scalar.cmpi .eq (BitVec.ofNat 32 (i 0).val) 0#32) : BitVec 32) 0#32

section
variable (c : Dev nD) (i : grid1.Coords)
  (A1 : Memref sig .tc .vmem S16x1792 .f32) (h1 : A1.IsWhole) (A2 : Memref sig .tc .vmem S1024x1792 .f32) (h2 : A2.IsWhole)
  (A3 : Memref sig .tc .vmem S1x1024 .f32) (h3 : A3.IsWhole) (A4 : Memref sig .tc .vmem S2x1024 .f32) (h4 : A4.IsWhole)
  (A5 : Memref sig .tc .vmem S1x2 .f32) (h5 : A5.IsWhole) (A6 : Memref sig .tc .vmem S16x2 .f32) (h6 : A6.IsWhole)
  (A7 : Memref sig .tc .vmem S16x1024 .f32) (h7 : A7.IsWhole)
  (f1 : BufTy.Contents (Elt F) A1.view.ty) (f2 : BufTy.Contents (Elt F) A2.view.ty) (f3 : BufTy.Contents (Elt F) A3.view.ty)
  (f4 : BufTy.Contents (Elt F) A4.view.ty) (f5 : BufTy.Contents (Elt F) A5.view.ty) (f6 : BufTy.Contents (Elt F) A6.view.ty)
  (f7 : BufTy.Contents (Elt F) A7.view.ty)

set_option maxHeartbeats 2000000 in
/-- The body run from seven whole buffers: the first point clears the accumulator, every point adds its product, the last point
stores the result, and the inputs' buffers are left as they were. -/
theorem mlp_run :
    (iprop((A1.view.loc (c : Thread nD τ) ↦{fullShare} f1) ∗ (A2.view.loc (c : Thread nD τ) ↦{fullShare} f2) ∗ (A3.view.loc (c : Thread nD τ) ↦{fullShare} f3)
        ∗ (A4.view.loc (c : Thread nD τ) ↦{fullShare} f4) ∗ (A5.view.loc (c : Thread nD τ) ↦{fullShare} f5) ∗ (A6.view.loc (c : Thread nD τ) ↦{fullShare} f6)
        ∗ (A7.view.loc (c : Thread nD τ) ↦{fullShare} f7)) : sProp 𝕄)
      ⊢ wp frame (wpE (defs₀ (F := F)) Variants.none (c : Thread nD τ) none) Set.univ
          (cc1__mlp_body (F := F) i A1 h1 A2 h2 A3 h3 A4 h4 A5 h5 A6 h6 A7 h7)
          (fun _ => iprop((A1.view.loc (c : Thread nD τ) ↦{fullShare} f1) ∗ (A2.view.loc (c : Thread nD τ) ↦{fullShare} f2)
            ∗ (A3.view.loc (c : Thread nD τ) ↦{fullShare} f3) ∗ (A4.view.loc (c : Thread nD τ) ↦{fullShare} f4) ∗ (A5.view.loc (c : Thread nD τ) ↦{fullShare} f5)
            ∗ ∃ g7 : BufTy.Contents (Elt F) A7.view.ty, ⌜(A7.access hR).read (Elt F) g7 = k1_pay2 (if isFirst i = 1#1 then k1_pay1 else (A7.access hR).read (Elt F) f7)
                  ((A1.access xR).read (Elt F) f1) ((A2.access w1R).read (Elt F) f2)⌝
              ∗ (A7.view.loc (c : Thread nD τ) ↦{fullShare} g7)
              ∗ ∃ g6 : BufTy.Contents (Elt F) A6.view.ty, ⌜if k1_cond2 i = 1#1 then (A6.access oR).read (Elt F) g6
                    = k1_pay3 ((A7.access hR).read (Elt F) g7) ((A3.access b1R).read (Elt F) f3) ((A4.access w2R).read (Elt F) f4) ((A5.access b2R).read (Elt F) f5)
                  else g6 = f6⌝
                ∗ (A6.view.loc (c : Thread nD τ) ↦{fullShare} g6))) := by
  rw [cc1__mlp_body_eq_skeleton]
  unfold cc1__mlp_body_skel
  iintro ⟨H1, H2, H3, H4, H5, H6, H7⟩
  simp only [Prog.bind_lift, Prog.bind_op, Prog.bind_ret, Prog.pure_eq_ret, bind_assoc]
  by_cases hc : isFirst i = 1#1
  on_goal 1 =>
    rw [dif_pos (show Scalar.cmpi .ne (Scalar.extui (Scalar.cmpi .eq (BitVec.ofNat 32 (i 0).val) 0#32) : BitVec 32) 0#32 = 1#1 from hc)]
    iapply (wp_load_rect Variants.none (c : Thread nD τ) none Set.univ (m := A7) (r := hR) (Finset.subset_univ _)) $$ H7
    iintro H7
    iapply (wp_store Variants.none (c : Thread nD τ) none Set.univ (m := A7) (r := hR) (Finset.subset_univ _)) $$ H7
    iintro H7
    generalize hg : (A7.access hR).write (Elt F) f7 k1_pay1 Finset.univ = g
    have hr : k1_pay1 = (A7.access hR).read (Elt F) g := by rw [← hg, View.read_write_univ]
    rw [if_pos hc]
  on_goal 2 =>
    rw [if_neg hc]
    have hr : (A7.access hR).read (Elt F) f7 = (A7.access hR).read (Elt F) f7 := rfl
    generalize f7 = g at hr ⊢
    rw [dif_neg (show ¬ Scalar.cmpi .ne (Scalar.extui (Scalar.cmpi .eq (BitVec.ofNat 32 (i 0).val) 0#32) : BitVec 32) 0#32 = 1#1 from hc)]
  all_goals
    iapply (wp_load_rect Variants.none (c : Thread nD τ) none Set.univ (m := A7) (r := hR) (Finset.subset_univ _)) $$ H7
    iintro H7
    iapply (wp_load_rect Variants.none (c : Thread nD τ) none Set.univ (m := A1) (r := xR) (Finset.subset_univ _)) $$ H1
    iintro H1
    iapply (wp_load_rect Variants.none (c : Thread nD τ) none Set.univ (m := A2) (r := w1R) (Finset.subset_univ _)) $$ H2
    iintro H2
    iapply (wp_load_rect Variants.none (c : Thread nD τ) none Set.univ (m := A7) (r := hR) (Finset.subset_univ _)) $$ H7
    iintro H7
    iapply (wp_store Variants.none (c : Thread nD τ) none Set.univ (m := A7) (r := hR) (Finset.subset_univ _)) $$ H7
    iintro H7
    by_cases hd : k1_cond2 i = 1#1
    · rw [dif_pos hd]
      iapply (wp_load_rect Variants.none (c : Thread nD τ) none Set.univ (m := A7) (r := hR) (Finset.subset_univ _)) $$ H7
      iintro H7
      iapply (wp_load_rect Variants.none (c : Thread nD τ) none Set.univ (m := A3) (r := b1R) (Finset.subset_univ _)) $$ H3
      iintro H3
      iapply (wp_load_rect Variants.none (c : Thread nD τ) none Set.univ (m := A4) (r := w2R) (Finset.subset_univ _)) $$ H4
      iintro H4
      iapply (wp_load_rect Variants.none (c : Thread nD τ) none Set.univ (m := A5) (r := b2R) (Finset.subset_univ _)) $$ H5
      iintro H5
      iapply (wp_load_rect Variants.none (c : Thread nD τ) none Set.univ (m := A6) (r := oR) (Finset.subset_univ _)) $$ H6
      iintro H6
      iapply (wp_store Variants.none (c : Thread nD τ) none Set.univ (m := A6) (r := oR) (Finset.subset_univ _)) $$ H6
      iintro H6
      rw [wp_ret]
      imodintro
      isplitl [H1]; · iexact H1
      isplitl [H2]; · iexact H2
      isplitl [H3]; · iexact H3
      isplitl [H4]; · iexact H4
      isplitl [H5]; · iexact H5
      iexists (A7.access hR).write (Elt F) g (k1_pay2 ((A7.access hR).read (Elt F) g) ((A1.access xR).read (Elt F) f1)
        ((A2.access w1R).read (Elt F) f2)) Finset.univ
      isplitr
      · ipureintro; exact (View.read_write_univ _ _).trans (congrArg (k1_pay2 · _ _) hr.symm)
      isplitl [H7]; · iexact H7
      iexists (A6.access oR).write (Elt F) f6 (k1_pay3 ((A7.access hR).read (Elt F) ((A7.access hR).write (Elt F) g
          (k1_pay2 ((A7.access hR).read (Elt F) g) ((A1.access xR).read (Elt F) f1) ((A2.access w1R).read (Elt F) f2)) Finset.univ))
        ((A3.access b1R).read (Elt F) f3) ((A4.access w2R).read (Elt F) f4) ((A5.access b2R).read (Elt F) f5)) Finset.univ
      isplitr
      · ipureintro
        rw [if_pos hd, View.read_write_univ]
      iexact H6
    · rw [dif_neg hd]
      rw [wp_ret]
      imodintro
      isplitl [H1]; · iexact H1
      isplitl [H2]; · iexact H2
      isplitl [H3]; · iexact H3
      isplitl [H4]; · iexact H4
      isplitl [H5]; · iexact H5
      iexists (A7.access hR).write (Elt F) g (k1_pay2 ((A7.access hR).read (Elt F) g) ((A1.access xR).read (Elt F) f1)
        ((A2.access w1R).read (Elt F) f2)) Finset.univ
      isplitr
      · ipureintro; exact (View.read_write_univ _ _).trans (congrArg (k1_pay2 · _ _) hr.symm)
      isplitl [H7]; · iexact H7
      iexists f6
      isplitr
      · ipureintro
        rw [if_neg hd]
      iexact H6

end

end Cert.Proof
-- ==== Proof.MlpRegion.lean ====
module

public import proofs.«01_k».proof.Proof.PoolRegion
public import proofs.«01_k».proof.Proof.MlpBody
public import Idealize.ShloMosaic.Lib.Pipeline.RegionArraysT
public import Idealize.ShloMosaic.Lib.Pipeline.RegionsLoop
public import Idealize.ShloMosaic.Lib.Pipeline.FrameBody
public import Idealize.ShloMosaic.Lib.ValueIdxCore

/-!
The classifier kernel's launch: what each point of its grid finds and leaves, and the launch as a region of the program.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (Pipeline.UD sig nD τ) ℕ

section
variable (V : (c : Dev nD) → (b : Ref sig .tc) → Buf (Elt F) ((c : Thread nD τ).loc b))

/-- The launch's point of a number. -/
def tN (n : ℕ) : Fin grid1.N := ⟨n % 4, by rw [N_1]; exact Nat.mod_lt _ (by decide)⟩

/-- The blocks the windows stage: of the joined inputs and of the hidden weights at a point, of the rest at every point. -/
abbrev xsB (c : Dev nD) (t : Fin grid1.N) : S16x1792.Idx → Elt F .f32 := ((cfg1.win 0).blk t).view.read (Elt F) (V c main_v3)
abbrev wsB (c : Dev nD) (t : Fin grid1.N) : S1024x1792.Idx → Elt F .f32 := ((cfg1.win 1).blk t).view.read (Elt F) (V c main_arg5)
abbrev b1B (c : Dev nD) : S1x1024.Idx → Elt F .f32 := ((cfg1.win 2).blk t1_0).view.read (Elt F) (V c main_v4)
abbrev w2B (c : Dev nD) : S2x1024.Idx → Elt F .f32 := ((cfg1.win 3).blk t1_0).view.read (Elt F) (V c main_arg7)
abbrev b2B (c : Dev nD) : S1x2.Idx → Elt F .f32 := ((cfg1.win 4).blk t1_0).view.read (Elt F) (V c main_v5)

/-- The accumulator after some points: cleared, then one product added at each. -/
def accM (c : Dev nD) : ℕ → S16x1024.Idx → Elt F .f32
  | 0 => k1_pay1
  | n + 1 => k1_pay2 (accM c n) (xsB V c (tN n)) (wsB V c (tN n))

/-- The kernel's result at an entry valuation. -/
abbrev mlpAt (c : Dev nD) : S16x2.Idx → Elt F .f32 := k1_pay3 (accM V c 4) (b1B V c) (w2B V c) (b2B V c)

/-- The accumulator's buffer before a point: at the products so far, but before the first at anything. -/
def accHeld (c : Dev nD) (n : ℕ) : sProp 𝕄 :=
  iprop(∃ f : S16x1024.Idx → Elt F .f32, ⌜n ≠ 0 → f = accM V c n⌝ ∗ (((c : Thread nD τ).loc cc1_scratch0) ↦{fullShare} f))

/-- What the launch keeps between its points: the other launch's buffers and the accumulator. -/
def Φ1 (c : Dev nD) (n : ℕ) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_scratch0), ((c : Thread nD τ).loc cc0_scratch0) ↦{fullShare} f)
    ∗ (∃ f : Buf (Elt F) ((c : Thread nD τ).loc cc0_scratch2), ((c : Thread nD τ).loc cc0_scratch2) ↦{fullShare} f)
    ∗ accHeld V c n)

/-- The launch's proof data: the arrays at the entry valuation, the inputs' buffers as staged, the result's at the kernel's result. -/
def dat1 (c : Dev nD) : Dat τ (Elt F) Unit ℕ (Pipeline.UD sig nD τ) ℕ cfg1 c where
  A w := V c (Pipeline.arrRef spec1 w)
  after w t := match w with
    | ⟨0, _⟩ => xsB V c t
    | ⟨1, _⟩ => wsB V c t
    | ⟨2, _⟩ => b1B V c
    | ⟨3, _⟩ => w2B V c
    | ⟨4, _⟩ => b2B V c
    | ⟨5, _⟩ => mlpAt V c
  Φ t := Φ1 V c t.val
  q _ := fullShare
  owed _ := 0

/-- A buffer read through the rectangle of its own sizes at zero offsets is the buffer read. -/
theorem read_full {s : Shape} (A : Memref sig .tc .vmem s .f32) {off : Fin s.rank → ℕ} (ho : off = fun _ => 0)
    (inb : ∀ a, off a + s.size a ≤ s.size a) (f : BufTy.Contents (Elt F) A.view.ty) :
    (A.access (Rect.unit off s.size inb)).read (Elt F) f = A.view.read (Elt F) f := by
  subst ho
  funext x
  exact congrArg (A.view.read (Elt F) f) (Rect.emb_whole_apply _ x)

/-- The offset of a whole access is zero. -/
theorem off0 : (![0, 0] : Fin 2 → ℕ) = fun _ => 0 := by funext a; fin_cases a <;> rfl

section
variable (c : Dev nD) (i : grid1.Coords) (n : ℕ)
  (A1 : Memref sig .tc .vmem S16x1792 .f32) (h1 : A1.IsWhole) (A2 : Memref sig .tc .vmem S1024x1792 .f32) (h2 : A2.IsWhole)
  (A3 : Memref sig .tc .vmem S1x1024 .f32) (h3 : A3.IsWhole) (A4 : Memref sig .tc .vmem S2x1024 .f32) (h4 : A4.IsWhole)
  (A5 : Memref sig .tc .vmem S1x2 .f32) (h5 : A5.IsWhole) (A6 : Memref sig .tc .vmem S16x2 .f32) (h6 : A6.IsWhole)
  (x1 : S16x1792.Idx → Elt F .f32) (x2 : S1024x1792.Idx → Elt F .f32) (x3 : S1x1024.Idx → Elt F .f32) (x4 : S2x1024.Idx → Elt F .f32)
  (x5 : S1x2.Idx → Elt F .f32)

/-- One point's body: the accumulator goes one product on, the inputs' buffers stay, and the last point leaves the result. -/
theorem body_triple1 (hi : isFirst i = 1#1 ↔ n = 0) (hx1 : x1 = xsB V c (tN n)) (hx2 : x2 = wsB V c (tN n)) (O : sProp 𝕄) :
    iprop(Φ1 V c n ∗ O ∗ owns (c : Thread nD τ) A1 fullShare x1 ∗ owns (c : Thread nD τ) A2 fullShare x2 ∗ owns (c : Thread nD τ) A3 fullShare x3
        ∗ owns (c : Thread nD τ) A4 fullShare x4 ∗ owns (c : Thread nD τ) A5 fullShare x5 ∗ (∃ d, owns (c : Thread nD τ) A6 fullShare d))
      ⊢ wp frame (wpE (defs₀ (F := F)) Variants.none (c : Thread nD τ) none) Set.univ
          (cc1__mlp_body (F := F) i A1 h1 A2 h2 A3 h3 A4 h4 A5 h5 A6 h6 (Memref.whole cc1_scratch0) (Memref.isWhole_whole _))
          (fun _ => iprop(Φ1 V c (n + 1) ∗ O ∗ owns (c : Thread nD τ) A1 fullShare x1 ∗ owns (c : Thread nD τ) A2 fullShare x2
            ∗ owns (c : Thread nD τ) A3 fullShare x3 ∗ owns (c : Thread nD τ) A4 fullShare x4 ∗ owns (c : Thread nD τ) A5 fullShare x5
            ∗ (∃ d, ⌜k1_cond2 i = 1#1 → d = k1_pay3 (accM V c (n + 1)) x3 x4 x5⌝ ∗ owns (c : Thread nD τ) A6 fullShare d))) := by
  unfold Φ1 accHeld owns
  simp only [h1.set_eq_univ, h2.set_eq_univ, h3.set_eq_univ, h4.set_eq_univ, h5.set_eq_univ, h6.set_eq_univ]
  iintro ⟨⟨R0, R1, R2, R3, R4, ⟨%f7, %hf7, H7⟩⟩, HO, ⟨%f1, %e1, H1⟩, ⟨%f2, %e2, H2⟩, ⟨%f3, %e3, H3⟩, ⟨%f4, %e4, H4⟩, ⟨%f5, %e5, H5⟩, ⟨%d6, %f6, -, H6⟩⟩
  have hrun := mlp_run c i A1 h1 A2 h2 A3 h3 A4 h4 A5 h5 A6 h6 (Memref.whole cc1_scratch0) (Memref.isWhole_whole _) f1 f2 f3 f4 f5 f6 f7
  iapply (wp_wand frame (wpE (defs₀ (F := F)) Variants.none (c : Thread nD τ) none) Set.univ) $$ [H1 H2 H3 H4 H5 H6 H7]
  · iapply hrun
    isplitl [H1]; · iexact H1
    isplitl [H2]; · iexact H2
    isplitl [H3]; · iexact H3
    isplitl [H4]; · iexact H4
    isplitl [H5]; · iexact H5
    isplitl [H6]; · iexact H6
    iexact H7
  · iintro %_ ⟨H1, H2, H3, H4, H5, ⟨%g7, %hg7, H7, ⟨%g6, %hg6, H6⟩⟩⟩
    have hacc : g7 = accM V c (n + 1) := by
      refine (read_full (Memref.whole cc1_scratch0) off0 _ g7).symm.trans (hg7.trans ?_)
      rw [read_full A1 off0, read_full A2 off0, e1, e2, hx1, hx2]
      show _ = k1_pay2 (accM V c n) _ _
      congr 1
      by_cases hn : n = 0
      · rw [if_pos (hi.2 hn), hn]; rfl
      · rw [if_neg fun h => hn (hi.1 h)]; exact (read_full (Memref.whole cc1_scratch0) off0 _ f7).trans (hf7 hn)
    isplitl [R0 R1 R2 R3 R4 H7]
    · isplitl [R0]; · iexact R0
      isplitl [R1]; · iexact R1
      isplitl [R2]; · iexact R2
      isplitl [R3]; · iexact R3
      isplitl [R4]; · iexact R4
      iexists g7; isplitr; · ipureintro; exact fun _ => hacc
      iexact H7
    isplitl [HO]; · iexact HO
    isplitl [H1]; · iexists f1; isplitr; · ipureintro; exact e1
                    iexact H1
    isplitl [H2]; · iexists f2; isplitr; · ipureintro; exact e2
                    iexact H2
    isplitl [H3]; · iexists f3; isplitr; · ipureintro; exact e3
                    iexact H3
    isplitl [H4]; · iexists f4; isplitr; · ipureintro; exact e4
                    iexact H4
    isplitl [H5]; · iexists f5; isplitr; · ipureintro; exact e5
                    iexact H5
    iexists A6.view.read (Elt F) g6
    isplitr
    · ipureintro
      intro hd
      rw [if_pos hd, read_full A3 off0, read_full A4 off0, read_full A5 off0, e3, e4, e5] at hg6
      refine (read_full A6 off0 _ g6).symm.trans (hg6.trans ?_)
      exact congrArg (k1_pay3 · _ _ _) ((read_full (Memref.whole cc1_scratch0) off0 _ g7).trans hacc)
    · iexists g6; isplitr; · ipureintro; rfl
      iexact H6

end

section
variable (c : Dev nD) (t : Fin grid1.N)

/-- A point is the one its number names. -/
theorem tN_val : tN t.val = t := by
  apply Fin.ext; show t.val % 4 = t.val; exact Nat.mod_eq_of_lt (lt_of_lt_of_eq t.isLt N_1)

/-- The first point is number zero. -/
theorem first_iff : isFirst (grid1.coords t) = 1#1 ↔ t.val = 0 := by
  rcases fin_N1 t with rfl | rfl | rfl | rfl <;> decide

/-- The last point is number three. -/
theorem last_iff : k1_cond2 (grid1.coords t) = 1#1 ↔ t = t1_3 := by
  rcases fin_N1 t with rfl | rfl | rfl | rfl <;> decide

/-- Window 0's staging at any point holds its block. -/
theorem before1_0 (d : (cfg1.win 0).block.Idx → Elt F (cfg1.win 0).elt) : (dat1 V c).before 0 t d = xsB V c t := by
  have h : (cfg1.win 0).fetch t = true := by rcases fin_N1 t with rfl | rfl | rfl | rfl <;> rfl
  unfold Dat.before; exact if_pos h

/-- Window 1's staging at any point holds its block. -/
theorem before1_1 (d : (cfg1.win 1).block.Idx → Elt F (cfg1.win 1).elt) : (dat1 V c).before 1 t d = wsB V c t := by
  have h : (cfg1.win 1).fetch t = true := by rcases fin_N1 t with rfl | rfl | rfl | rfl <;> rfl
  unfold Dat.before; exact if_pos h

/-- Window 2's staging at any point holds its block. -/
theorem before1_2 (d : (cfg1.win 2).block.Idx → Elt F (cfg1.win 2).elt) : (dat1 V c).before 2 t d = b1B V c := by
  rcases fin_N1 t with rfl | rfl | rfl | rfl
  · unfold Dat.before; exact if_pos (show (cfg1.win 2).fetch t1_0 = true from rfl)
  all_goals exact ((dat1 V c).before_of_pos 2 _ (by decide) rfl d).trans (if_neg (by decide))

/-- Window 3's staging at any point holds its block. -/
theorem before1_3 (d : (cfg1.win 3).block.Idx → Elt F (cfg1.win 3).elt) : (dat1 V c).before 3 t d = w2B V c := by
  rcases fin_N1 t with rfl | rfl | rfl | rfl
  · unfold Dat.before; exact if_pos (show (cfg1.win 3).fetch t1_0 = true from rfl)
  all_goals exact ((dat1 V c).before_of_pos 3 _ (by decide) rfl d).trans (if_neg (by decide))

/-- Window 4's staging at any point holds its block. -/
theorem before1_4 (d : (cfg1.win 4).block.Idx → Elt F (cfg1.win 4).elt) : (dat1 V c).before 4 t d = b2B V c := by
  rcases fin_N1 t with rfl | rfl | rfl | rfl
  · unfold Dat.before; exact if_pos (show (cfg1.win 4).fetch t1_0 = true from rfl)
  all_goals exact ((dat1 V c).before_of_pos 4 _ (by decide) rfl d).trans (if_neg (by decide))

/-- Nothing is staged for the result: before the first point its buffer is as found, -/
theorem before1_5_0 (d : (cfg1.win 5).block.Idx → Elt F (cfg1.win 5).elt) : (dat1 V c).before 5 t1_0 d = d := by
  unfold Dat.before; exact (if_neg (by decide)).trans (if_pos rfl)

/-- and before the second, -/
theorem before1_5_1 (d : (cfg1.win 5).block.Idx → Elt F (cfg1.win 5).elt) : (dat1 V c).before 5 t1_1 d = d :=
  ((dat1 V c).before_of_pos 5 t1_1 (by decide) rfl d).trans ((if_neg (by decide)).trans (before1_5_0 V c d))

/-- and before the third. -/
theorem before1_5_2 (d : (cfg1.win 5).block.Idx → Elt F (cfg1.win 5).elt) : (dat1 V c).before 5 t1_2 d = d :=
  ((dat1 V c).before_of_pos 5 t1_2 (by decide) rfl d).trans ((if_neg (by decide)).trans (before1_5_1 V c d))

/-- What a point leaves of the result's buffer, as the launch states it: before the last point as found, at the last the result. -/
theorem left1_5 (P : (S16x2.Idx → Elt F .f32) → sProp 𝕄) :
    iprop(∃ d, ⌜k1_cond2 (grid1.coords t) = 1#1 → d = k1_pay3 (accM V c (t.val + 1)) (b1B V c) (w2B V c) (b2B V c)⌝ ∗ P d)
      ⊢ (match cfg1.idle 5 (cfg1.grid.coords t) with
        | true => match (cfg1.win 5).flush t with
          | false => iprop(∃ d, P ((dat1 V c).before 5 t d))
          | true => P ((dat1 V c).after 5 t)
        | false => P ((dat1 V c).after 5 t) : sProp 𝕄) := by
  rcases fin_N1 t with rfl | rfl | rfl | rfl
  · show _ ⊢ iprop(∃ d, P ((dat1 V c).before 5 t1_0 d))
    iintro ⟨%d, -, H⟩; iexists d; rw [before1_5_0]; iexact H
  · show _ ⊢ iprop(∃ d, P ((dat1 V c).before 5 t1_1 d))
    iintro ⟨%d, -, H⟩; iexists d; rw [before1_5_1]; iexact H
  · show _ ⊢ iprop(∃ d, P ((dat1 V c).before 5 t1_2 d))
    iintro ⟨%d, -, H⟩; iexists d; rw [before1_5_2]; iexact H
  · show _ ⊢ P (mlpAt V c)
    iintro ⟨%d, %hd, H⟩
    have e : d = mlpAt V c := hd ((last_iff t1_3).2 rfl)
    subst e; iexact H

end

set_option backward.isDefEq.respectTransparency.types false in
/-- The body meets its obligation. -/
theorem body_obligation1 (c : Dev nD) : BodyObligation (dat1 V c) (defs₀ (F := F)) Variants.none () Set.univ := fun t => by
  rw [bigSep_W1, bigSep_W1, show (dat1 V c).Φ t.castSucc = Φ1 V c t.val from rfl, show (dat1 V c).Φ t.succ = Φ1 V c (t.val + 1) from rfl]
  refine triple_restated (body_triple1 V c (grid1.coords t) t.val (win1_0.stage (cfg1.slots t 0)) (hstage1_0 _) (win1_1.stage (cfg1.slots t 1)) (hstage1_1 _)
    (win1_2.stage (cfg1.slots t 2)) (hstage1_2 _) (win1_3.stage (cfg1.slots t 3)) (hstage1_3 _) (win1_4.stage (cfg1.slots t 4)) (hstage1_4 _)
    (win1_5.stage (cfg1.slots t 5)) (hstage1_5 _) (xsB V c t) (wsB V c t) (b1B V c) (w2B V c) (b2B V c) (first_iff t)
    (by rw [tN_val]) (by rw [tN_val]) ((dat1 V c).owesAt () t.castSucc)) rfl ?_ ?_
  · refine sep_mono .rfl (sep_mono .rfl (sep_mono (exists_elim fun d => ?_) (sep_mono (exists_elim fun d => ?_) (sep_mono (exists_elim fun d => ?_)
      (sep_mono (exists_elim fun d => ?_) (sep_mono (exists_elim fun d => ?_) (exists_elim fun d => ?_)))))))
    · exact Entails.of_eq (congrArg (owns (c : Thread nD τ) (win1_0.stage (cfg1.slots t 0)) fullShare) (before1_0 V c t d))
    · exact Entails.of_eq (congrArg (owns (c : Thread nD τ) (win1_1.stage (cfg1.slots t 1)) fullShare) (before1_1 V c t d))
    · exact Entails.of_eq (congrArg (owns (c : Thread nD τ) (win1_2.stage (cfg1.slots t 2)) fullShare) (before1_2 V c t d))
    · exact Entails.of_eq (congrArg (owns (c : Thread nD τ) (win1_3.stage (cfg1.slots t 3)) fullShare) (before1_3 V c t d))
    · exact Entails.of_eq (congrArg (owns (c : Thread nD τ) (win1_4.stage (cfg1.slots t 4)) fullShare) (before1_4 V c t d))
    · exact exists_intro (Φ := fun d => owns (c : Thread nD τ) (win1_5.stage (cfg1.slots t 5)) fullShare d) _
  · intro _
    exact sep_mono .rfl (sep_mono .rfl (sep_mono .rfl (sep_mono .rfl (sep_mono .rfl (sep_mono .rfl (sep_mono .rfl
      (left1_5 V c t fun d => owns (c : Thread nD τ) (win1_5.stage (cfg1.slots t 5)) fullShare d)))))))

variable (a : (p : Fin 2) → (pcfgs (F := F) p).Adm)
variable (D0 : (c : Dev nD) → Dat τ (Elt F) Unit ℕ (Pipeline.UD sig nD τ) ℕ (cfg0 (a 0)) c)
variable (Vp : (c : Dev nD) → (b : Ref sig .tc) → Buf (Elt F) ((c : Thread nD τ).loc b))

set_option backward.isDefEq.respectTransparency.types false in
/-- The launch as a region: entered with every unscoped buffer at `V`, left with them at `Vp`, which is `V` but for the result. -/
def reg1 (hVp_out : ∀ c, Vp c main_v6 = (dat1 V c).arrAt 5 cfg1.N) (hVp_ne : ∀ c (b : Ref sig .tc), b ≠ main_v6 → Vp c b = V c b) :
    Pipeline.RegionSeg (pcfgs (F := F)) a (pdats a D0 (dat1 V)) () defs₀ Variants.none L lv 1 where
  win := (launch1 (F := F)).win.to₀
  block_pos := (launch1 (F := F)).block_pos
  stage_whole := (launch1 (F := F)).stage_whole
  K := PEmpty
  osem k := k.elim
  ho := Pipeline.OwnSemFacts.none _
  hbody c := (body_obligation1 V c).loose
  hwaits := Pipeline.hwaits_of_owed_zero _ _ _ _ L lv 1 fun _ _ => rfl
  pre c := iprop(unscopedBufs c (V c) ∗ ∃ W, owes (c : Thread nD τ) (0 : CellTallies nD τ sig Unit) W)
  post c := iprop(unscopedBufs c (Vp c) ∗ ∃ W, owes (c : Thread nD τ) (0 : CellTallies nD τ sig Unit) W)
  X _ := BI.emp
  Y _ := BI.emp
  Z c := Pipeline.unscopedRest (Ix := Unit) (Name := ℕ) (U := Pipeline.UD sig nD τ) (Lvl := ℕ) spec1 c (V c)
  hentry c := by
    rw [Pipeline.ownSems0_none]
    have hsplit := Pipeline.arrays_of_unscopedBufs (p := 1) (pcfgs (F := F)) a (pdats a D0 (dat1 V)) (launch1 (F := F)).win (launch1 (F := F)).arr_whole c
      ((pdats a D0 (dat1 V) 1 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats a D0 (dat1 V) 1 c).Φ 0 = Φ1 V c 0 from rfl]
    iintro ⟨-, -, Hr⟩
    ihave Hr := (show _ ⊢ _ from Entails.of_eq (scopedRest1_eq c)) $$ Hr
    unfold Φ1 accHeld
    icases Hr with ⟨R0, R1, R2, R3, R4, ⟨%f, H⟩⟩
    isplitl [R0]; · iexact R0
    isplitl [R1]; · iexact R1
    isplitl [R2]; · iexact R2
    isplitl [R3]; · iexact R3
    isplitl [R4]; · iexact R4
    iexists f; isplitr; · ipureintro; exact fun h => absurd rfl h
    iexact H
  hout c := by
    rw [Pipeline.ownSems0_none, show (pdats a D0 (dat1 V) 1 c).Φ (Fin.last _) = Φ1 V c 4 from rfl]
    unfold Φ1 accHeld
    iintro ⟨R0, R1, R2, R3, R4, ⟨%f, -, H⟩⟩
    isplitr; · iempintro
    isplitr; · iempintro
    iapply (show _ ⊢ _ from Entails.of_eq (scopedRest1_eq c).symm)
    isplitl [R0]; · iexact R0
    isplitl [R1]; · iexact R1
    isplitl [R2]; · iexact R2
    isplitl [R3]; · iexact R3
    isplitl [R4]; · iexact R4
    iexists f; iexact H
  hexit c := by
    have hjoin := Pipeline.unscopedBufs_of_arrays (p := 1) (pcfgs (F := F)) a (Ix := Unit) (Name := ℕ) (U := Pipeline.UD sig nD τ) (Lvl := ℕ) (launch1 (F := F)).win (launch1 (F := F)).arr_whole c
      (pdats a D0 (dat1 V)) ((pdats a D0 (dat1 V) 1 c).share_full fun _ => rfl) (V c) (Vp c) ((pdats a D0 (dat1 V) 1 c).arrAt · cfg1.N)
      (fun w => by
        fin_cases w
        · exact ((dat1 V c).arrAt_in 0 rfl _).trans (hVp_ne c main_v3 (by decide)).symm
        · exact ((dat1 V c).arrAt_in 1 rfl _).trans (hVp_ne c main_arg5 (by decide)).symm
        · exact ((dat1 V c).arrAt_in 2 rfl _).trans (hVp_ne c main_v4 (by decide)).symm
        · exact ((dat1 V c).arrAt_in 3 rfl _).trans (hVp_ne c main_arg7 (by decide)).symm
        · exact ((dat1 V c).arrAt_in 4 rfl _).trans (hVp_ne c main_v5 (by decide)).symm
        · exact (hVp_out c).symm)
      (fun b hb => hVp_ne c b fun h => hb (h ▸ Finset.mem_image.mpr ⟨5, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end

end Cert.Proof
-- ==== Proof.Run.lean ====
module

public import proofs.«01_k».proof.Proof.MlpRegion
public import proofs.«01_k».proof.Proof.Gen.KernelIdeal.Regions

/-!
The program's run: the host operations and the two launches in order, from any memory whose counts are in range.
-/

@[expose] public section

set_option maxRecDepth 16384

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)
open Cert.KernelIdeal Cert.KernelIdeal.Gen

variable {F : FTy → Type} [FloatOps F]

local notation "𝕄" => MT nD τ sig Unit (Elt F) ℕ (Pipeline.UD sig nD τ) ℕ

section
variable (m : (ℓ : Loc nD τ sig) → Buf (Elt F) ℓ)

/-- The pooling launch's table is the counts; the other launch has none. -/
def adm : (p : Fin 2) → (pcfgs (F := F) p).Adm
  | ⟨0, _⟩ => ⟨fun | ⟨0, _⟩ => m (((0 : Dev nD) : Thread nD τ).loc main_arg2), trivial⟩
  | ⟨1, _⟩ => (cfg1).toPCfg_adm

/-- Every sample's count is in range. -/
abbrev InRange : Prop := ∀ b, (cnt (tab (adm m)) b).toNat ≤ 2048

variable (hT : InRange m)

/-- The buffers when the pooling launch is entered. -/
abbrev E1 (c : Dev nD) (b : Ref sig .tc) : Buf (Elt F) ((c : Thread nD τ).loc b) := V1 m c b

/-- The buffers after the pooling launch, -/
def W2 (c : Dev nD) : Valuation τ sig (Elt F) := Function.update (V1 m c) main_v1 ((dat0 (adm m) (E1 m) hT c).arrAt 2 (cfg0 (adm m 0)).N)
/-- when the classifier launch is entered, -/
def W3 (c : Dev nD) : Valuation τ sig (Elt F) := StableHlo.after hostOps1 (W2 m hT c)
abbrev E3 (c : Dev nD) (b : Ref sig .tc) : Buf (Elt F) ((c : Thread nD τ).loc b) := W3 m hT c b
/-- and at the end. -/
def W4 (c : Dev nD) : Valuation τ sig (Elt F) := Function.update (W3 m hT c) main_v6 ((dat1 (E3 m hT) c).arrAt 5 cfg1.N)

/-- What each launch leaves in its result. -/
def outs : Outs (F := F) := fun j r c => if j = 2 then W2 m hT c r else W4 m hT c r

/-- The pooling launch's result is its array after the last point, -/
theorem W2_out (c : Dev nD) : W2 m hT c main_v1 = (dat0 (adm m) (E1 m) hT c).arrAt 2 (cfg0 (adm m 0)).N := Function.update_self _ _ _

/-- and so is the classifier launch's. -/
theorem W4_out (c : Dev nD) : W4 m hT c main_v6 = (dat1 (E3 m hT) c).arrAt 5 cfg1.N := Function.update_self _ _ _

/-- The first unknown is the pooling launch's result, -/
theorem outs_2 (c : Dev nD) : outs m hT 2 main_v1 c = W2 m hT c main_v1 := if_pos rfl

/-- and the second the classifier launch's. -/
theorem outs_4 (c : Dev nD) : outs m hT 4 main_v6 c = W4 m hT c main_v6 := if_neg (by decide)

/-- With these results the buffers after each item are the valuations above: after the pooling launch, -/
theorem V2_eq (c : Dev nD) : V2 m (outs m hT) c = W2 m hT c := by
  have e := (outs_2 m hT c).trans (W2_out m hT c)
  unfold V2 W2
  rw [e]

/-- after the host operations that follow it, -/
theorem V3_eq (c : Dev nD) : V3 m (outs m hT) c = W3 m hT c := congrArg (StableHlo.after hostOps1) (V2_eq m hT c)

/-- and at the end. -/
theorem V4_eq (c : Dev nD) : V4 m (outs m hT) c = W4 m hT c :=
  congrArg₂ (fun (W : Valuation τ sig (Elt F)) x => Function.update W (Proc.devRef .tc main_v6) x) (V3_eq m hT c) ((outs_4 m hT c).trans (W4_out m hT c))

/-- The pooling launch changes only its result, -/
theorem W2_ne (c : Dev nD) (b : Ref sig .tc) (h : b ≠ main_v1) : W2 m hT c b = V1 m c b :=
  Function.update_of_ne (StableHlo.devRef_ne_of_ne h) _ _

/-- and the classifier launch only its own. -/
theorem W4_ne (c : Dev nD) (b : Ref sig .tc) (h : b ≠ main_v6) : W4 m hT c b = W3 m hT c b :=
  Function.update_of_ne (StableHlo.devRef_ne_of_ne h) _ _

/-- The two launches as regions, each from the buffers before it to those after it. -/
def R0 : RegionSeg (pcfgs (F := F)) (adm m) (pdats (adm m) (dat0 (adm m) (E1 m) hT) (dat1 (E3 m hT))) () defs₀ Variants.none L lv 0 :=
  reg0 (adm m) (E1 m) hT (dat1 (E3 m hT)) (fun c b => W2 m hT c b)
    (fun c => by
      obtain rfl : c = (0 : Dev nD) := Subsingleton.elim _ _
      exact V1_of m 0 main_arg2 (by decide))
    (W2_out m hT) (fun c b h => W2_ne m hT c b h)

/-- The classifier launch. -/
def R1 : RegionSeg (pcfgs (F := F)) (adm m) (pdats (adm m) (dat0 (adm m) (E1 m) hT) (dat1 (E3 m hT))) () defs₀ Variants.none L lv 1 :=
  reg1 (E3 m hT) (adm m) (dat0 (adm m) (E1 m) hT) (fun c b => W4 m hT c b)
    (W4_out m hT) (fun c b h => W4_ne m hT c b h)

/-- What rides beside the buffers: the core's dues, none. -/
def Eo (_ : Fin 3) (c : Dev nD) : sProp 𝕄 := iprop(∃ W, owes (c : Thread nD τ) (0 : CellTallies nD τ sig Unit) W)

set_option backward.isDefEq.respectTransparency.types false in
/-- From any memory with counts in range and zero counters, every execution ends, and leaves every unscoped buffer at the last
valuation and every counter at zero. -/
theorem run_main (ρ : Dev nD → PrngReg) :
    θ_run defs (onTc (τ := τ) (main (F := F))) ⟨m, fun _ => 0, ρ⟩
      (fun r => (∀ c : Dev nD, ∀ b ∈ Pipeline.ucRefs τ sig, r.2.mem (c, b) = V4 m (outs m hT) c b) ∧ r.2.sem = fun _ => 0) := by
  refine Pipeline.θ_run_regions_kit_dev_sems (pcfgs (F := F)) (adm m) (pdats (adm m) (dat0 (adm m) (E1 m) hT) (dat1 (E3 m hT))) () (cellOf_inj (adm m))
    (embL : Emb (UR sig nD τ) 𝕄) defs₀ Variants.none L lv m ρ main
    (segs m (outs m hT) Variants.none L lv Eo () (adm m) (pdats (adm m) (dat0 (adm m) (E1 m) hT) (dat1 (E3 m hT))) (R0 m hT) (R1 m hT))
    (fun c Q => by
      rewrite [main_chain c, Seg.run_eq_chain,
        show (segs m (outs m hT) Variants.none L lv Eo () (adm m) (pdats (adm m) (dat0 (adm m) (E1 m) hT) (dat1 (E3 m hT))) (R0 m hT) (R1 m hT) c).map Seg.prog = [
          StableHlo.seq hostOps0,
          Prog.lift (.customCall (Pipeline.entry 0) ()),
          StableHlo.seq hostOps1,
          Prog.lift (.customCall (Pipeline.entry 1) ()) ] from rfl]
      dsimp (config := { failIfUnchanged := false }) only
      exact .rfl)
    (fun c => by simp only [segs, Seg.pipes_host, Seg.pipes_region, Seg.pipes_nil]; decide) (O₀ := 0) (hL := fun _ _ => rfl) (G := fun _ => iprop(emp))
    (u₀ := (initOf (Pipeline.cells (Pipeline.pin (pcfgs (F := F)) (adm m)) (cellOf_inj (adm m))) (Pipeline.launchToks (Pipeline.pin (pcfgs (F := F)) (adm m)) (cellOf_inj (adm m))), 1))
    (hu₀ := by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Eo 0 c))
    (Tₙ := fun c => StableHlo.held (c : Thread nD τ) (Pipeline.ucRefs τ sig) (V4 m (outs m hT) c))
    (hch := fun c => ⟨.rfl,
      sep_mono (Entails.of_eq (Pipeline.unscopedBufs_held (Ix := Unit) (Name := ℕ) (U := Pipeline.UD sig nD τ) (Lvl := ℕ) c (V1 m c)).symm) .rfl,
      sep_mono (Entails.of_eq ((Pipeline.unscopedBufs_held (Ix := Unit) (Name := ℕ) (U := Pipeline.UD sig nD τ) (Lvl := ℕ) c (W2 m hT c)).trans
        (by rw [V2_eq]))) .rfl,
      sep_mono (Entails.of_eq ((Pipeline.unscopedBufs_held (Ix := Unit) (Name := ℕ) (U := Pipeline.UD sig nD τ) (Lvl := ℕ) c (W3 m hT c)).trans
        (by rw [← V3_eq])).symm) .rfl,
      sep_mono (Entails.of_eq ((Pipeline.unscopedBufs_held (Ix := Unit) (Name := ℕ) (U := Pipeline.UD sig nD τ) (Lvl := ℕ) c (W4 m hT c)).trans
        (by rw [V4_eq]))) .rfl⟩)
    (hinit := by
      refine Pipeline.initEach L lv fun c => ?_
      rw [show unscopedBufs c (fun b => m ((c : Thread nD τ).loc b)) = StableHlo.held (c : Thread nD τ) (Pipeline.ucRefs τ sig) (V0 m c) from
        Pipeline.unscopedBufs_held c (V0 m c)]
      iintro ⟨⟨Hh, -, HO, -, -, -⟩, -⟩
      imodintro
      isplitl [Hh]; · iexact Hh
      unfold Eo
      iexists ∅; iexact HO)
    (QY := fun c s => ∀ b ∈ Pipeline.ucRefs τ sig, s.mem (c, b) = V4 m (outs m hT) c b)
    (hfin := fun c s' => by
      unfold StableHlo.held
      iintro ⟨Hh, HSI⟩
      ihave Hr := (pointsTo_read_all (Pipeline.ucRefs τ sig) (fun b => ((c : Thread nD τ).1, b)) (V4 m (outs m hT) c) s') $$ [Hh HSI]
      · isplitl [Hh] <;> iassumption
      icases Hr with ⟨%h, HSI⟩
      imodintro
      isplitr
      · ipureintro; exact h
      iexact HSI)
    (hQ := fun _ h hz => ⟨h, funext fun g => hz g (.inr (regions_no_unscoped g.2))⟩)

end

end Cert.Proof
-- ==== Proof.Bridge.lean ====
module

public import proofs.«01_k».proof.Proof.Run
public import proofs.«01_k».proof.Kernel
public import proofs.«01_k».proof.Proof.Gen.Kernel

/-!
The kernel as it is launched and the kernel as it is read over the reals are one text: no operation is replaced. So their body
tables and their main functions are equal at every reading of the floats, and a run proved of one is a run of the other.
-/

@[expose] public section

set_option maxRecDepth 16384
set_option maxHeartbeats 20000000

noncomputable section

namespace Cert.Proof

open Idealize.ShloMosaic Idealize.ShloMosaic.TcCoe
open Idealize.SL.Sem

variable {F : FTy → Type} [FloatOps F]

/-- The pooling kernel's two texts are one. -/
theorem pool_body_eq : Cert.Kernel.cc0__pool_body (F := F) = Cert.KernelIdeal.cc0__pool_body (F := F) := rfl

/-- The classifier kernel's two texts are one. -/
theorem mlp_body_eq : Cert.Kernel.cc1__mlp_body (F := F) = Cert.KernelIdeal.cc1__mlp_body (F := F) := rfl

/-- The tables of the two kernels' bodies are one. -/
theorem defs₀_eq : Cert.Kernel.defs₀ (F := F) = Cert.KernelIdeal.defs₀ (F := F) := by
  unfold Cert.Kernel.defs₀ Cert.KernelIdeal.defs₀
  refine congrArg (Defs.onTc (sig := Cert.KernelIdeal.sig) (Λ := Cert.KernelIdeal.Λ₀)) ?_
  funext ℓ
  match ℓ with
  | 0 => rfl
  | 1 => rfl

/-- The tables with the launches added are one. -/
theorem defs_eq : Cert.Kernel.defs (F := F) = Cert.KernelIdeal.defs (F := F) := by
  unfold Cert.Kernel.defs Cert.KernelIdeal.defs
  exact congrArg (Pipeline.defs (Cert.KernelIdeal.pcfgs (F := F))) defs₀_eq

/-- The main functions are one. -/
theorem main_eq : Cert.Kernel.main (F := F) = Cert.KernelIdeal.main (F := F) := by
  unfold Cert.Kernel.main Cert.KernelIdeal.main
  rfl

end Cert.Proof
-- ==== Proof.Frames.lean ====
module

public import proofs.«01_k».proof.Defs
public import proofs.«01_k».proof.Proof.Bridge
public import proofs.«01_k».proof.Proof.Gen.Pre_lengths_in_range

/-!
The frames: from a memory whose counts are in range the program runs to its end, the arguments stay as they were and every
semaphore ends at zero.
-/

@[expose] public section

set_option maxRecDepth 16384
set_option maxHeartbeats 20000000

noncomputable section

namespace Cert.Proof

open Idealize.ShloMosaic Idealize.ShloMosaic.TcCoe
open Idealize.SL.Sem
open Cert.KernelIdeal Cert.KernelIdeal.Gen

variable {F : FTy → Type} [FloatOps F]

/-- The run read at the result and the arguments. -/
theorem run_result (m : (ℓ : Loc nD τ sig) → Buf (Elt F) ℓ) (hT : InRange m) (ρ : Dev nD → PrngReg) :
    θ_run defs (onTc (τ := τ) (main (F := F))) ⟨m, fun _ => 0, ρ⟩ (fun r => (∀ c : Dev nD,
      r.2.mem ((c.tc : Thread nD τ).loc main_v6) = (dat1 (E3 m hT) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) := by
  refine (θ_run defs _ _).mono (fun r h => ⟨fun c => ?_, h.2⟩) (run_main m hT ρ)
  have R := h.1 c
  refine ⟨(R (Proc.devRef .tc main_v6) (Finset.mem_filter.mpr ⟨StableHlo.devRef_mem_tcRefs main_v6, by decide⟩)).trans
      ((congrFun (V4_eq m hT c) _).symm.trans (W4_out m hT c)),
    (R (Proc.devRef .tc main_arg0) (Finset.mem_filter.mpr ⟨StableHlo.devRef_mem_tcRefs main_arg0, by decide⟩)).trans (V4_main_arg0 m _ c),
    (R (Proc.devRef .tc main_arg1) (Finset.mem_filter.mpr ⟨StableHlo.devRef_mem_tcRefs main_arg1, by decide⟩)).trans (V4_main_arg1 m _ c),
    (R (Proc.devRef .tc main_arg2) (Finset.mem_filter.mpr ⟨StableHlo.devRef_mem_tcRefs main_arg2, by decide⟩)).trans (V4_main_arg2 m _ c),
    (R (Proc.devRef .tc main_arg3) (Finset.mem_filter.mpr ⟨StableHlo.devRef_mem_tcRefs main_arg3, by decide⟩)).trans (V4_main_arg3 m _ c),
    (R (Proc.devRef .tc main_arg4) (Finset.mem_filter.mpr ⟨StableHlo.devRef_mem_tcRefs main_arg4, by decide⟩)).trans (V4_main_arg4 m _ c),
    (R (Proc.devRef .tc main_arg5) (Finset.mem_filter.mpr ⟨StableHlo.devRef_mem_tcRefs main_arg5, by decide⟩)).trans (V4_main_arg5 m _ c),
    (R (Proc.devRef .tc main_arg6) (Finset.mem_filter.mpr ⟨StableHlo.devRef_mem_tcRefs main_arg6, by decide⟩)).trans (V4_main_arg6 m _ c),
    (R (Proc.devRef .tc main_arg7) (Finset.mem_filter.mpr ⟨StableHlo.devRef_mem_tcRefs main_arg7, by decide⟩)).trans (V4_main_arg7 m _ c),
    (R (Proc.devRef .tc main_arg8) (Finset.mem_filter.mpr ⟨StableHlo.devRef_mem_tcRefs main_arg8, by decide⟩)).trans (V4_main_arg8 m _ c)⟩

/-- A word that is at least 0 and at most 2048 as a signed word is at most 2048 as a number. -/
theorem word_le {v : BitVec 32} (e : IntOp.andi (IntOp.cmpi .sge v 0#32) (IntOp.cmpi .sle v 2048#32) = 1#1) : v.toNat ≤ 2048 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide,
    decide_eq_true_eq, BitVec.toInt_eq_toNat_cond, BitVec.toNat_ofNat, Nat.reducePow, Nat.reduceMod] at e
  omega

/-- A memory whose counts are, word by word, in range. -/
theorem inRange_of_words (m : (ℓ : Loc nD τ sig) → Buf (Elt F) ℓ)
    (h : ∀ y : S16.Idx, IntOp.andi (IntOp.cmpi .sge (m (((0 : Dev nD) : Thread nD τ).loc main_arg2) y) 0#32)
      (IntOp.cmpi .sle (m (((0 : Dev nD) : Thread nD τ).loc main_arg2) y) 2048#32) = 1#1) : InRange m :=
  fun _ => word_le (h _)

/-- The range precondition at the bits, decoded. -/
theorem inRange_bits (m : (ℓ : Loc nD τ sig) → Buf (Elt Bits) ℓ) (h : Cert.Pre_Kernel m) : InRange m :=
  inRange_of_words m fun y => congrFun (h 0) y

/-- The range precondition over the reals, decoded. -/
theorem inRange_ideal (m : (ℓ : Loc nD τ sig) → Buf (Elt Ideal) ℓ) (h : Cert.Pre_KernelIdeal m) : InRange m :=
  inRange_of_words m fun y => congrFun (h 0) y

/-- The kernel's frame at the bits. -/
theorem frame_kernel : Cert.quiescent_Kernel := fun m ρ h => by
  rw [defs_eq, main_eq]
  exact (θ_run defs _ _).mono (fun _ h => ⟨fun c => (h.1 c).2, h.2⟩) (run_result (F := Bits) m (inRange_bits m h) ρ)

/-- The kernel's frame over the reals. -/
theorem frame_ideal : Cert.quiescent_KernelIdeal := fun m ρ h =>
  (θ_run defs _ _).mono (fun _ h => ⟨fun c => (h.1 c).2, h.2⟩) (run_result (F := Ideal) m (inRange_ideal m h) ρ)

end Cert.Proof
-- ==== Proof.RefFrame.lean ====
module

public import proofs.«01_k».proof.Defs
public import proofs.«01_k».proof.Proof.Gen.ReferenceIdeal.Run
public import Idealize.ShloMosaic.Lib.Quiescent

/-!
The reference's frame: it is a list of host operations, which runs to its end and writes no argument.
-/

@[expose] public section

noncomputable section

namespace Cert.Proof

open Idealize.ShloMosaic Idealize.SL.Sem

/-- The reference's frame over the reals. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof
-- ==== Proof.Bins.lean ====
module

public import proofs.«01_k».proof.Proof.Words
public import Idealize.ShloMosaic.Lib.Pointwise

/-!
The episodes of a sample as numbers, the words that stand for them, and the comparisons of those words.
-/

@[expose] public section

set_option maxRecDepth 16384

noncomputable section

namespace Cert.Proof

open Idealize.ShloMosaic

/-- The first step of episode `h` of a sample with `n` steps, -/
def lo (n h : ℕ) : ℕ := h * epLen n
/-- and the step after its last. -/
def hi (n h : ℕ) : ℕ := min (lo n h + epLen n) n

/-- A step of an episode. -/
abbrev inBin (n h p : ℕ) : Prop := lo n h ≤ p ∧ p < hi n h

/-- One where a condition holds and zero where it does not. -/
def bit (P : Prop) [Decidable P] : ℝ := if P then 1 else 0

/-- An episode's bounds are small numbers. -/
theorem lo_lt {n h : ℕ} (hn : n ≤ 2048) (hh : h < 24) : lo n h < 4096 := by
  unfold lo
  have e : epLen n ≤ 86 := by unfold epLen; omega
  calc h * epLen n ≤ 23 * 86 := Nat.mul_le_mul (by omega) e
    _ < 4096 := by norm_num

/-- An episode's length is small. -/
theorem ep_lt {n : ℕ} (hn : n ≤ 2048) : epLen n < 4096 := by unfold epLen; omega

/-- An episode ends within the count. -/
theorem hi_le (n h : ℕ) : hi n h ≤ n := Nat.min_le_right _ _

/-- The steps of the episodes are used steps. -/
theorem hi_used {n h : ℕ} (hh : h < 24) : hi n h ≤ used n := by
  unfold hi lo used
  have : h * epLen n + epLen n ≤ 24 * epLen n := by
    calc h * epLen n + epLen n = (h + 1) * epLen n := by ring
      _ ≤ 24 * epLen n := Nat.mul_le_mul (by omega) le_rfl
  omega

/-- An episode that starts before the end has a step. -/
theorem lo_lt_hi {n h : ℕ} (h0 : lo n h < n) : lo n h < hi n h := by
  unfold hi
  have : 1 ≤ epLen n := by unfold epLen; omega
  omega

/-- A number below 2³¹ as a word is the same number as a signed one. -/
theorem toInt_small {a : ℕ} (ha : a < 2 ^ 31) : (BitVec.ofNat 32 a).toInt = a := by
  rw [BitVec.toInt_eq_toNat_cond, BitVec.toNat_ofNat]
  rw [Nat.mod_eq_of_lt (by omega)]
  split_ifs <;> omega

/-- Signed comparison of small words is that of their numbers, strict -/
theorem slt_small {a b : ℕ} (ha : a < 2 ^ 31) (hb : b < 2 ^ 31) : (BitVec.ofNat 32 a).slt (BitVec.ofNat 32 b) = decide (a < b) := by
  rw [BitVec.slt, toInt_small ha, toInt_small hb]; simp

/-- and weak. -/
theorem sle_small {a b : ℕ} (ha : a < 2 ^ 31) (hb : b < 2 ^ 31) : (BitVec.ofNat 32 a).sle (BitVec.ofNat 32 b) = decide (a ≤ b) := by
  rw [BitVec.sle, toInt_small ha, toInt_small hb]; simp

/-- A comparison of small words is the comparison of the numbers. -/
theorem cmpi_slt {a b : ℕ} (ha : a < 2 ^ 31) (hb : b < 2 ^ 31) : IntOp.cmpi .slt (BitVec.ofNat 32 a) (BitVec.ofNat 32 b) = BitVec.ofBool (decide (a < b)) := by
  show BitVec.ofBool _ = _; rw [slt_small ha hb]

/-- The same for at least. -/
theorem cmpi_sge {a b : ℕ} (ha : a < 2 ^ 31) (hb : b < 2 ^ 31) : IntOp.cmpi .sge (BitVec.ofNat 32 a) (BitVec.ofNat 32 b) = BitVec.ofBool (decide (b ≤ a)) := by
  show BitVec.ofBool _ = _; rw [sle_small hb ha]

/-- The word of an episode's first step, -/
theorem lo_word (n h : ℕ) : IntOp.muli (BitVec.ofNat 32 h) (BitVec.ofNat 32 (epLen n)) = BitVec.ofNat 32 (lo n h) := by
  show _ * _ = _; rw [lo, BitVec.ofNat_mul]

/-- and of the step after its last. -/
theorem hi_word {n h : ℕ} (hn : n ≤ 2048) (hh : h < 24) :
    IntOp.minsi (IntOp.addi (BitVec.ofNat 32 (lo n h)) (BitVec.ofNat 32 (epLen n))) (BitVec.ofNat 32 n) = BitVec.ofNat 32 (hi n h) := by
  have h1 := lo_lt hn hh
  have h2 := ep_lt hn
  show (if (BitVec.ofNat 32 (lo n h) + BitVec.ofNat 32 (epLen n)).slt (BitVec.ofNat 32 n) then BitVec.ofNat 32 (lo n h) + BitVec.ofNat 32 (epLen n) else BitVec.ofNat 32 n) = _
  rw [← BitVec.ofNat_add, slt_small (by omega) (by omega)]
  unfold hi
  by_cases hlt : lo n h + epLen n < n
  · rw [if_pos (by simpa using hlt), min_eq_left hlt.le]
  · rw [if_neg (by simpa using hlt), min_eq_right (by omega)]

/-- The word of a condition on a step: one where the step is in the episode. -/
theorem bin_word {n h p : ℕ} (hn : n ≤ 2048) (hh : h < 24) (hp : p < 4096) :
    IntOp.andi (IntOp.cmpi .sge (BitVec.ofNat 32 p) (BitVec.ofNat 32 (lo n h))) (IntOp.cmpi .slt (BitVec.ofNat 32 p) (BitVec.ofNat 32 (hi n h)))
      = BitVec.ofBool (decide (inBin n h p)) := by
  have h1 := lo_lt hn hh
  have h2 := hi_le n h
  rw [cmpi_sge (by omega) (by omega), cmpi_slt (by omega) (by omega)]
  show BitVec.ofBool _ &&& BitVec.ofBool _ = _
  rw [BitVec.ofBool_and_ofBool, Bool.decide_and]

/-- A condition's bit read unsigned, and widened and read signed, is one or zero. -/
theorem bit_unsigned (P : Prop) [Decidable P] : (FloatOps.uitofp .f32 (BitVec.ofBool (decide P)) : Ideal .f32) = ((bit P : ℝ) : EReal) := by
  show (((BitVec.ofBool (decide P)).toNat : ℝ) : EReal) = _
  unfold bit
  by_cases h : P <;> simp [h]

/-- The same read as a signed word. -/
theorem bit_signed (P : Prop) [Decidable P] : (FloatOps.sitofp .f32 ((BitVec.ofBool (decide P)).setWidth 32) : Ideal .f32) = ((bit P : ℝ) : EReal) := by
  show ((((BitVec.ofBool (decide P)).setWidth 32).toInt : ℝ) : EReal) = _
  unfold bit
  by_cases h : P <;> simp [h]

end Cert.Proof

end
-- ==== Proof.PoolSum.lean ====
module

public import proofs.«01_k».proof.Proof.Bins

/-!
The pooling in real numbers: projecting the mean of the steps is the mean of the projected steps.
-/

@[expose] public section

noncomputable section

namespace Cert.Proof

open Idealize.ShloMosaic

/-- A sum of reals is their sum as extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The steps of an episode among the first 2048, counted. -/
theorem sum_bit {n h : ℕ} (hn : n ≤ 2048) (h0 : lo n h < n) : ∑ p : Fin 2048, bit (inBin n h p) = ((hi n h - lo n h : ℕ) : ℝ) := by
  rw [← Finset.sum_range fun p => bit (inBin n h p)]
  unfold bit
  rw [Finset.sum_boole]
  congr 1
  rw [show (Finset.range 2048).filter (fun p => inBin n h p) = Finset.Ico (lo n h) (hi n h) from ?_, Nat.card_Ico]
  ext p
  have := hi_le n h
  simp only [Finset.mem_filter, Finset.mem_range, Finset.mem_Ico, inBin]
  omega

/-- Projecting the mean is the mean of the projections: an episode's steps summed, scaled by the reciprocal of their number, projected
and shifted, against each step projected and shifted, summed and divided. Without steps both are nothing. -/
theorem pool_eq {n h : ℕ} (hn : n ≤ 2048) (x : Fin 2048 → Fin 1024 → ℝ) (w : Fin 1024 → ℝ) (b inv : EReal)
    (hinv : lo n h < n → inv = ((1 / ((hi n h - lo n h : ℕ) : ℝ) : ℝ) : EReal)) :
    ∑ d : Fin 1024, (∑ p : Fin 2048, ((bit (inBin n h p) : ℝ) : EReal) * (x p d : EReal)) * (inv * ((bit (lo n h < n) : ℝ) : EReal)) * (w d : EReal)
        + b * ((bit (lo n h < n) : ℝ) : EReal)
      = Ideal.div (∑ p : Fin 2048, ((bit (inBin n h p) : ℝ) : EReal) * (∑ d : Fin 1024, (x p d : EReal) * (w d : EReal) + b))
          (max (∑ p : Fin 2048, ((bit (inBin n h p) : ℝ) : EReal)) 1) * ((bit (lo n h < n) : ℝ) : EReal) := by
  by_cases h0 : lo n h < n
  · have hlt := lo_lt_hi h0
    have hc := sum_bit hn h0
    rw [hinv h0]
    generalize hk : hi n h - lo n h = k at hc ⊢
    have hk1 : 1 ≤ k := by omega
    have hkR : (1 : ℝ) ≤ k := by exact_mod_cast hk1
    have hk0 : (k : ℝ) ≠ 0 := by positivity
    rw [show bit (lo n h < n) = 1 from if_pos h0, ← coe_sum, hc, EReal.coe_one, mul_one, mul_one, mul_one,
      show max ((k : ℝ) : EReal) 1 = ((k : ℝ) : EReal) from max_eq_left (by exact_mod_cast hkR), Ideal.div_coe hk0]
    generalize hm : (fun p : Fin 2048 => bit (inBin n h p)) = m at hc ⊢
    have hmp : ∀ p : Fin 2048, bit (inBin n h p) = m p := fun p => congrFun hm p
    have hm01 : ∀ p, m p = 0 ∨ m p = 1 := fun p => by
      rw [← hmp]; unfold bit; split_ifs <;> simp
    simp only [hmp] at hc ⊢
    have hR : ∑ p : Fin 2048, (m p : EReal) * (∑ d : Fin 1024, (x p d : EReal) * (w d : EReal) + b)
        = ((∑ p, m p * ∑ d, x p d * w d : ℝ) : EReal) + ((k : ℝ) : EReal) * b := by
      have e : ∀ p, (m p : EReal) * (∑ d : Fin 1024, (x p d : EReal) * (w d : EReal) + b)
          = ((m p * ∑ d, x p d * w d : ℝ) : EReal) + (m p : EReal) * b := fun p => by
        rcases hm01 p with e | e
        · rw [e]; simp
        · rw [e]; simp [coe_sum]
      rw [Finset.sum_congr rfl fun p _ => e p, Finset.sum_add_distrib, ← coe_sum]
      congr 1
      rw [← hc, coe_sum]
      have : ∀ s : Finset (Fin 2048), ∑ p ∈ s, (m p : EReal) * b = (∑ p ∈ s, (m p : EReal)) * b := fun s => by
        induction s using Finset.induction_on with
        | empty => simp
        | insert a s ha ih =>
          rw [Finset.sum_insert ha, Finset.sum_insert ha, ih]
          refine (EReal.right_distrib_of_nonneg ?_ (Finset.sum_nonneg fun p _ => ?_)).symm
          · rcases hm01 a with e | e <;> simp [e]
          · rcases hm01 p with e | e <;> simp [e]
      exact this _
    rw [hR, EReal.right_distrib_of_nonneg_of_ne_top (by exact_mod_cast (by positivity : (0:ℝ) ≤ 1 / k)) (EReal.coe_ne_top _)]
    refine congrArg₂ (· + ·) ?_ ?_
    · simp only [← EReal.coe_mul, ← coe_sum]
      refine congrArg (fun r : ℝ => (r : EReal)) ?_
      simp only [Finset.sum_mul, Finset.mul_sum]
      rw [Finset.sum_comm]
      exact Finset.sum_congr rfl fun p _ => Finset.sum_congr rfl fun d _ => by ring
    · rw [mul_comm ((k : ℝ) : EReal) b, mul_assoc, ← EReal.coe_mul, mul_one_div_cancel hk0, EReal.coe_one, mul_one]
  · rw [show bit (lo n h < n) = 0 from if_neg h0]
    simp

end Cert.Proof

end
-- ==== Proof.PoolValue.lean ====
module

public import proofs.«01_k».proof.Proof.PoolRegion
public import proofs.«01_k».proof.Proof.PoolSum

/-!
The pooling kernel's result read at an index: the episode's steps summed chunk by chunk, scaled, projected and shifted.
-/

@[expose] public section

set_option maxRecDepth 16384

noncomputable section

namespace Cert.Proof

open Idealize.ShloMosaic Idealize.ShloMosaic.TcCoe
open Cert.KernelIdeal Cert.KernelIdeal.Gen

/-- The kernel's floor division by 24, at least one, on every count the lengths may take. -/
theorem kbin_all : ∀ k : Fin 2049, (let v : BitVec 32 := BitVec.ofNat 32 k
    Scalar.maxsi (Scalar.select (Scalar.andi
        (Scalar.cmpi .ne (Scalar.subi (Scalar.extui (Scalar.cmpi .sgt v 0#32)) (Scalar.extui (Scalar.cmpi .slt v 0#32)))
          (Scalar.subi (Scalar.extui (Scalar.cmpi .sgt 24#32 0#32)) (Scalar.extui (Scalar.cmpi .slt 24#32 0#32))))
        (Scalar.cmpi .ne (Scalar.remsi v 24#32) 0#32)) (Scalar.subi (Scalar.divsi v 24#32) 1#32) (Scalar.divsi v 24#32)) 1#32)
      = BitVec.ofNat 32 (epLen k) := by decide +kernel

/-- One chunk added to the accumulator, the chunk's first step as a word. -/
def chunkStep (p : BitVec 32) (s t : IVec S24x1 32) (a : FVec Ideal S24x1024 .f32) (x : FVec Ideal S1x256x1024 .f32) : FVec Ideal S24x1024 .f32 :=
  have v83 : IVec S24x256 32 := addi (iota .tc S24x256 32 [1] iota_S24x256_d1_w32) (broadcast S24x256 p)
  have v88 : IVec S24x256 1 := andi (cmpi .sge v83 (broadcastTo S24x256 s broadcasts_S24x1_S24x256)) (cmpi .slt v83 (broadcastTo S24x256 t broadcasts_S24x1_S24x256))
  have v91 : FVec Ideal S24x256 .bf16 := truncf .bf16 (sitofp .f32 (extui 32 v88 natLt_1_32)) bitsLt_bf16_f32
  have v96 : FVec Ideal S256x1024 .bf16 := truncf .bf16 (shapeCast S256x1024 x shapeCasts_S1x256x1024_S256x1024) bitsLt_bf16_f32
  have v98 : FVec Ideal S24x1024 .f32 := addf a (matmul dot_S24x256_S256x1024_S24x1024_1_0_0_1_n_n none v91 v96 (constant S24x1024 .f32 0x00000000#32))
  shapeCast S24x1024 v98 shapeCasts_S24x1024_S24x1024

/-- A chunk of the context at an index. -/
theorem chunk_apply (X : FVec Ideal S16x2048x1024 .f32) (b : Fin 16) (j : Fin 8) (q : Fin 256) (d : Fin 1024) :
    chunk (F := Ideal) X b j (ix3 0 q d) = X (ix3 b ⟨256 * j.val + q.val, by omega⟩ d) := by
  show X _ = X _
  congr 1
  funext a
  apply Fin.ext
  fin_cases a
  · show b.val + 1 * 0 = b.val; omega
  · show 256 * j.val + 1 * q.val = 256 * j.val + q.val; omega
  · show 0 + 1 * d.val = d.val; omega

/-- The cleared accumulator. -/
theorem zero_apply (i : S24x1024.Idx) : k0_pay1 (k0_pay7 (F := Ideal)) i = 0 := by
  pointwise [k0_pay1, k0_pay7]

section
variable {v : BitVec 32} (hv : v.toNat ≤ 2048)

/-- The kernel's accumulation is such a step. -/
theorem pay2_eq (s t : IVec S24x1 32) (k : Fin (k0_t4_loop v).trips) (a : FVec Ideal S24x1024 .f32) (x : FVec Ideal S1x256x1024 .f32) :
    k0_pay2 (F := Ideal) v s t k a x = chunkStep (Scalar.muli (Scf.iv 0#32 1#32 k) 256#32) s t a x := rfl

/-- What the accumulator is scaled, projected and shifted to. -/
theorem pay4_apply (s t : IVec S24x1 32) (a : FVec Ideal S24x1024 .f32) (w : FVec Ideal S256x1024 .f32) (bp : FVec Ideal S1x256 .f32) (h : Fin 24) (e : Fin 256) :
    k0_pay4 (F := Ideal) v s t a w bp (ix3 0 h e)
      = ∑ d : Fin 1024, a (ix2 h d) * (Ideal.div 1 (max (FloatOps.sitofp (F := Ideal) .f32 (IntOp.subi (t (ix2 h 0)) (s (ix2 h 0)))) 1) *
          FloatOps.sitofp (F := Ideal) .f32 (BitVec.setWidth 32 (IntOp.cmpi .slt (s (ix2 h 0)) v))) * w (ix2 e d)
        + bp (ix2 0 e) * FloatOps.sitofp (F := Ideal) .f32 (BitVec.setWidth 32 (IntOp.cmpi .slt (s (ix2 h 0)) v)) := by
  pointwise [k0_pay4, dot_S24x1024_S256x1024_S24x256_1_1_0_0_n_n]

include hv

/-- The same of any word in range. -/
theorem kbin : Scalar.maxsi (Scalar.select (Scalar.andi
        (Scalar.cmpi .ne (Scalar.subi (Scalar.extui (Scalar.cmpi .sgt v 0#32)) (Scalar.extui (Scalar.cmpi .slt v 0#32)))
          (Scalar.subi (Scalar.extui (Scalar.cmpi .sgt 24#32 0#32)) (Scalar.extui (Scalar.cmpi .slt 24#32 0#32))))
        (Scalar.cmpi .ne (Scalar.remsi v 24#32) 0#32)) (Scalar.subi (Scalar.divsi v 24#32) 1#32) (Scalar.divsi v 24#32)) 1#32
      = BitVec.ofNat 32 (epLen v.toNat) := by
  have e := kbin_all ⟨v.toNat, by omega⟩
  dsimp only at e
  rwa [ofNat_toNat] at e

/-- The kernel's word of an episode's first step, -/
theorem starts_apply (h : Fin 24) : starts Ideal v (ix2 h 0) = BitVec.ofNat 32 (lo v.toNat h) := by
  unfold starts
  pointwise [k0_pay5]
  rw [kbin hv, lo_word]

/-- and of the step after its last. -/
theorem ends_apply (h : Fin 24) : ends Ideal v (ix2 h 0) = BitVec.ofNat 32 (hi v.toNat h) := by
  have e := starts_apply hv h
  unfold starts at e
  unfold ends
  pointwise [k0_pay6]
  rw [kbin hv, e, ← hi_word hv h.2, ofNat_toNat]

/-- A chunk adds its steps that belong to the episode. -/
theorem chunkStep_apply (j : ℕ) (hj : j < 8) (a : FVec Ideal S24x1024 .f32) (x : FVec Ideal S1x256x1024 .f32) (h : Fin 24) (d : Fin 1024) :
    chunkStep (BitVec.ofNat 32 (256 * j)) (starts Ideal v) (ends Ideal v) a x (ix2 h d)
      = a (ix2 h d) + ∑ q : Fin 256, ((bit (inBin v.toNat h (256 * j + q)) : ℝ) : EReal) * x (ix3 0 q d) := by
  have e1 := starts_apply hv h
  have e2 := ends_apply hv h
  generalize starts Ideal v = s at e1 ⊢
  generalize ends Ideal v = t at e2 ⊢
  pointwise [chunkStep, dot_S24x256_S256x1024_S24x1024_1_0_0_1_n_n]
  refine congrArg (_ + ·) (Finset.sum_congr rfl fun q _ => ?_)
  have e3 : IntOp.addi (BitVec.ofNat 32 q) (BitVec.ofNat 32 (256 * j)) = BitVec.ofNat 32 (256 * j + q) := by
    show _ + _ = _
    rw [← BitVec.ofNat_add, Nat.add_comm]
  rw [e1, e2, e3, bin_word hv h.2 (by omega), bit_signed]

end

section
variable (X : FVec Ideal S16x2048x1024 .f32) (b : Fin 16) (v : BitVec 32) (hv : v.toNat ≤ 2048) (h : Fin 24) (d : Fin 1024)

/-- One masked step of a sample's context, nothing past its end. -/
def stepVal (p : ℕ) : EReal := if hp : p < 2048 then ((bit (inBin v.toNat h p) : ℝ) : EReal) * X (ix3 b ⟨p, hp⟩ d) else 0

/-- The accumulator after some chunks is the sum of the masked steps so far. -/
theorem accVal_apply : ∀ k : ℕ, k ≤ (k0_t4_loop v).trips →
    accVal (F := Ideal) X b v hv k (ix2 h d) = ∑ p ∈ Finset.range (256 * k), stepVal X b v h d p
  | 0, _ => by rw [accVal, zero_apply]; simp
  | k + 1, hk => by
    have hk' : k < (k0_t4_loop v).trips := hk
    have h8 : k < 8 := t4_lt hv ⟨k, hk'⟩
    have ew : Scalar.muli (Scf.iv 0#32 1#32 k) 256#32 = BitVec.ofNat 32 (256 * k) := by
      rw [← stepWord ⟨k, h8⟩, ofNat_toNat]
    rw [accVal, dif_pos hk', pay2_eq]
    dsimp only
    rw [ew, chunkStep_apply hv k h8, accVal_apply k hk'.le, Nat.mul_succ, Finset.sum_range_add]
    refine congrArg (_ + ·) ?_
    rw [← Fin.sum_univ_eq_sum_range (fun q => stepVal X b v h d (256 * k + q)) 256]
    refine Finset.sum_congr rfl fun q _ => ?_
    have hq : 256 * k + q.val < 2048 := by omega
    rw [stepVal, dif_pos hq, chunk_apply]

/-- After all chunks the accumulator is the sum over every step of the sample. -/
theorem acc_final : accVal (F := Ideal) X b v hv (k0_t4_loop v).trips (ix2 h d)
    = ∑ p : Fin 2048, ((bit (inBin v.toNat h p) : ℝ) : EReal) * X (ix3 b p d) := by
  rw [accVal_apply X b v hv h d _ le_rfl, t4_trips hv]
  have e : ∑ p : Fin 2048, ((bit (inBin v.toNat h p) : ℝ) : EReal) * X (ix3 b p d) = ∑ p ∈ Finset.range 2048, stepVal X b v h d p := by
    rw [← Fin.sum_univ_eq_sum_range]
    exact Finset.sum_congr rfl fun p _ => by rw [stepVal, dif_pos p.2]
  rw [e]
  have hn := nch_le hv
  refine Finset.sum_subset (Finset.range_subset_range.2 (by omega)) fun p _ hp => ?_
  have hu := hi_used (n := v.toNat) h.2
  have hp' : 256 * nch v.toNat ≤ p := by simpa using hp
  have : ¬ inBin v.toNat h p := by
    rintro ⟨-, hlt⟩
    unfold nch at hp'
    omega
  unfold stepVal
  split_ifs
  · rw [show bit (inBin v.toNat h p) = 0 from if_neg this]; simp
  · rfl

include hv in
/-- The scale of an episode that has steps is one over their number. -/
theorem inv_live (h0 : lo v.toNat h < v.toNat) :
    Ideal.div 1 (max (FloatOps.sitofp (F := Ideal) .f32 (IntOp.subi (BitVec.ofNat 32 (hi v.toNat h)) (BitVec.ofNat 32 (lo v.toNat h)))) 1)
      = ((1 / ((hi v.toNat h - lo v.toNat h : ℕ) : ℝ) : ℝ) : EReal) := by
  have hlt := lo_lt_hi h0
  have hle := hi_le v.toNat h
  have e : IntOp.subi (BitVec.ofNat 32 (hi v.toNat h)) (BitVec.ofNat 32 (lo v.toNat h)) = BitVec.ofNat 32 (hi v.toNat h - lo v.toNat h) := by
    show _ - _ = _
    have : BitVec.ofNat 32 (hi v.toNat h) = BitVec.ofNat 32 (hi v.toNat h - lo v.toNat h) + BitVec.ofNat 32 (lo v.toNat h) := by
      rw [← BitVec.ofNat_add]; congr 1; omega
    rw [this, BitVec.add_sub_cancel]
  rw [e]
  generalize hk : hi v.toNat h - lo v.toNat h = k
  have hk1 : 1 ≤ k := by omega
  have hkR : (1 : ℝ) ≤ k := by exact_mod_cast hk1
  have hs : (FloatOps.sitofp (F := Ideal) .f32 (BitVec.ofNat 32 k) : EReal) = ((k : ℝ) : EReal) := by
    show (((BitVec.ofNat 32 k).toInt : ℝ) : EReal) = _
    rw [toInt_small (by omega)]; simp
  rw [hs, max_eq_left (by exact_mod_cast hkR), Ideal.div_coe (by positivity), one_mul]

variable (W : FVec Ideal S256x1024 .f32) (bp : FVec Ideal S1x256 .f32) (x : S16x2048x1024.Idx → ℝ) (hx : ∀ i, X i = (x i : EReal))
  (w : S256x1024.Idx → ℝ) (hw : ∀ i, W i = (w i : EReal)) (e : Fin 256)
include hx hw

/-- A sample's block at an index: for finite context and weights, the masked sum of the projected steps over their number. -/
theorem row_apply :
    k0_pay4 (F := Ideal) v (starts Ideal v) (ends Ideal v) (accVal X b v hv (k0_t4_loop v).trips) W bp (ix3 0 h e)
      = Ideal.div (∑ p : Fin 2048, ((bit (inBin v.toNat h p) : ℝ) : EReal) * (∑ d : Fin 1024, X (ix3 b p d) * W (ix2 e d) + bp (ix2 0 e)))
          (max (∑ p : Fin 2048, ((bit (inBin v.toNat h p) : ℝ) : EReal)) 1) * ((bit (lo v.toNat h < v.toNat) : ℝ) : EReal) := by
  rw [pay4_apply]
  have h1 := lo_lt hv h.2
  have ec := cmpi_slt (a := lo v.toNat h) (b := v.toNat) (by omega) (by omega)
  rw [ofNat_toNat] at ec
  rw [starts_apply hv h, ends_apply hv h, ec, bit_signed]
  simp only [acc_final, hx, hw]
  exact pool_eq hv (fun p d => x (ix3 b p d)) (fun d => w (ix2 e d)) (bp (ix2 0 e)) _ (inv_live v hv h)

end

/-- The kernel's pooled value at an index. -/
theorem poolOut_apply (X : FVec Ideal S16x2048x1024 .f32) (T : BufTy.Contents (Elt Ideal) (Ref.ty main_arg2)) (hT : ∀ b, (cnt T b).toNat ≤ 2048)
    (W : FVec Ideal S256x1024 .f32) (bp : FVec Ideal S1x256 .f32) (x : S16x2048x1024.Idx → ℝ) (hx : ∀ i, X i = (x i : EReal))
    (w : S256x1024.Idx → ℝ) (hw : ∀ i, W i = (w i : EReal)) (b : Fin 16) (n : ℕ) (hn : (cnt T b).toNat = n) (h : Fin 24) (e : Fin 256) :
    poolOut (F := Ideal) X T hT W bp (ix3 b h e)
      = Ideal.div (∑ p : Fin 2048, ((bit (inBin n h p) : ℝ) : EReal) * (∑ d : Fin 1024, X (ix3 b p d) * W (ix2 e d) + bp (ix2 0 e)))
          (max (∑ p : Fin 2048, ((bit (inBin n h p) : ℝ) : EReal)) 1) * ((bit (lo n h < n) : ℝ) : EReal) := by
  subst hn
  have key : poolOut (F := Ideal) X T hT W bp (ix3 b h e) = rowOut (F := Ideal) X T hT W bp b (ix3 0 h e) := by
    unfold poolOut; rw [ix3_eq_valueIdx 0 h e]; rfl
  rw [key]
  exact row_apply X b (cnt T b) (hT b) h W bp x hx w hw e

end Cert.Proof

end
-- ==== Proof.MlpValue.lean ====
module

public import proofs.«01_k».proof.Proof.MlpRegion
public import Idealize.ShloMosaic.Lib.Pipeline.ValueKit
public import Idealize.ShloMosaic.Lib.Pointwise

/-!
The classifier kernel's result read at an index: the hidden layer's products summed block by block, the activation, and the last layer.
-/

@[expose] public section

set_option maxRecDepth 16384

noncomputable section

namespace Cert.Proof

open Idealize.ShloMosaic Idealize.ShloMosaic.TcCoe
open Cert.KernelIdeal Cert.KernelIdeal.Gen
open Idealize.ShloMosaic.Pipeline (Dat Cfg Window)

/-- The cleared accumulator. -/
theorem zero1_apply (i : S16x1024.Idx) : k1_pay1 (F := Ideal) i = 0 := by
  pointwise [k1_pay1]

/-- One block's products added. -/
theorem k1_pay2_apply (a : FVec Ideal S16x1024 .f32) (x : FVec Ideal S16x1792 .f32) (w : FVec Ideal S1024x1792 .f32) (b : Fin 16) (j : Fin 1024) :
    k1_pay2 (F := Ideal) a x w (ix2 b j) = a (ix2 b j) + ∑ q : Fin 1792, x (ix2 b q) * w (ix2 j q) := by
  pointwise [k1_pay2, dot_S16x1792_S1024x1792_S16x1024_1_1_0_0_n_n]

/-- The activation and the last layer. -/
theorem k1_pay3_apply (a : FVec Ideal S16x1024 .f32) (b1 : FVec Ideal S1x1024 .f32) (w2 : FVec Ideal S2x1024 .f32) (b2 : FVec Ideal S1x2 .f32) (b : Fin 16) (e : Fin 2) :
    k1_pay3 (F := Ideal) a b1 w2 b2 (ix2 b e)
      = ∑ j : Fin 1024, Ideal.ofBits .f32 0x3F000000#32 * (a (ix2 b j) + b1 (ix2 0 j))
          * (1 + Ideal.erf ((a (ix2 b j) + b1 (ix2 0 j)) * Ideal.ofBits .f32 0x3F3504F3#32)) * w2 (ix2 e j) + b2 (ix2 0 e) := by
  pointwise [k1_pay3, dot_S16x1024_S2x1024_S16x2_1_1_0_0_n_n]
  rfl

/-- The hidden layer before its activation, -/
def hidVal (x : FVec Ideal S16x7168 .f32) (w1 : FVec Ideal S1024x7168 .f32) (b1 : FVec Ideal S1x1024 .f32) (b : Fin 16) (j : Fin 1024) : EReal :=
  ∑ p : Fin 7168, x (ix2 b p) * w1 (ix2 j p) + b1 (ix2 0 j)

/-- and the classifier's value. -/
def clsVal (x : FVec Ideal S16x7168 .f32) (w1 : FVec Ideal S1024x7168 .f32) (b1 : FVec Ideal S1x1024 .f32) (w2 : FVec Ideal S2x1024 .f32) (b2 : FVec Ideal S1x2 .f32)
    (b : Fin 16) (e : Fin 2) : EReal :=
  ∑ j : Fin 1024, Ideal.ofBits .f32 0x3F000000#32 * hidVal x w1 b1 b j * (1 + Ideal.erf (hidVal x w1 b1 b j * Ideal.ofBits .f32 0x3F3504F3#32)) * w2 (ix2 e j) + b2 (ix2 0 e)

section
variable (V : (c : Dev nD) → (b : Ref sig .tc) → Buf (Elt Ideal) ((c : Thread nD τ).loc b)) (c : Dev nD)

/-- Where each window's block lies: along the columns with the point for the products' two operands, at the start for the rest. -/
theorem idx1_0 : ∀ t : Fin 4, win1_0.index (tN t) 0 = 0 ∧ win1_0.index (tN t) 1 = t := by decide +kernel
theorem idx1_1 : ∀ t : Fin 4, win1_1.index (tN t) 0 = 0 ∧ win1_1.index (tN t) 1 = t := by decide +kernel
theorem idx1_2 : win1_2.index t1_0 0 = 0 ∧ win1_2.index t1_0 1 = 0 := by decide +kernel
theorem idx1_3 : win1_3.index t1_0 0 = 0 ∧ win1_3.index t1_0 1 = 0 := by decide +kernel
theorem idx1_4 : win1_4.index t1_0 0 = 0 ∧ win1_4.index t1_0 1 = 0 := by decide +kernel

/-- The block of the joined inputs at a point: its columns from 1792 times the point's number. -/
theorem xsB_apply (t : ℕ) (ht : t < 4) (b : Fin 16) (q : Fin 1792) :
    xsB V c (tN t) (ix2 b q) = V c main_v3 (ix2 b ⟨1792 * t + q.val, by omega⟩) := by
  have e := idx1_0 ⟨t, ht⟩
  show V c main_v3 _ = V c main_v3 _
  congr 1
  funext a
  apply Fin.ext
  fin_cases a
  · show win1_0.index (tN t) 0 * 16 + 1 * b.val = b.val
    rw [e.1]; omega
  · show win1_0.index (tN t) 1 * 1792 + 1 * q.val = 1792 * t + q.val
    rw [e.2]; dsimp only; omega

/-- The block of the hidden weights, likewise. -/
theorem wsB_apply (t : ℕ) (ht : t < 4) (j : Fin 1024) (q : Fin 1792) :
    wsB V c (tN t) (ix2 j q) = V c main_arg5 (ix2 j ⟨1792 * t + q.val, by omega⟩) := by
  have e := idx1_1 ⟨t, ht⟩
  show V c main_arg5 _ = V c main_arg5 _
  congr 1
  funext a
  apply Fin.ext
  fin_cases a
  · show win1_1.index (tN t) 0 * 1024 + 1 * j.val = j.val
    rw [e.1]; omega
  · show win1_1.index (tN t) 1 * 1792 + 1 * q.val = 1792 * t + q.val
    rw [e.2]; dsimp only; omega

/-- The other blocks are whole arrays. -/
theorem b1B_eq : b1B V c = V c main_v4 := by
  funext i
  show V c main_v4 _ = V c main_v4 _
  congr 1
  funext a
  apply Fin.ext
  fin_cases a
  · show win1_2.index t1_0 0 * 1 + 1 * (i 0).val = (i 0).val
    rw [idx1_2.1]; omega
  · show win1_2.index t1_0 1 * 1024 + 1 * (i 1).val = (i 1).val
    rw [idx1_2.2]; omega

/-- So are the last layer's weights, -/
theorem w2B_eq : w2B V c = V c main_arg7 := by
  funext i
  show V c main_arg7 _ = V c main_arg7 _
  congr 1
  funext a
  apply Fin.ext
  fin_cases a
  · show win1_3.index t1_0 0 * 2 + 1 * (i 0).val = (i 0).val
    rw [idx1_3.1]; omega
  · show win1_3.index t1_0 1 * 1024 + 1 * (i 1).val = (i 1).val
    rw [idx1_3.2]; omega

/-- and its bias. -/
theorem b2B_eq : b2B V c = V c main_v5 := by
  funext i
  show V c main_v5 _ = V c main_v5 _
  congr 1
  funext a
  apply Fin.ext
  fin_cases a
  · show win1_4.index t1_0 0 * 1 + 1 * (i 0).val = (i 0).val
    rw [idx1_4.1]; omega
  · show win1_4.index t1_0 1 * 2 + 1 * (i 1).val = (i 1).val
    rw [idx1_4.2]; omega

section
variable (X : S16x7168.Idx → EReal) (W : S1024x7168.Idx → EReal) (b : Fin 16) (j : Fin 1024)

/-- One product of the hidden layer, nothing past the last column. -/
def prodVal (p : ℕ) : EReal := if hp : p < 7168 then X (ix2 b ⟨p, hp⟩) * W (ix2 j ⟨p, hp⟩) else 0

end

/-- The accumulator after some points is the sum of the products so far. -/
theorem accM_apply (b : Fin 16) (j : Fin 1024) : ∀ k : ℕ, k ≤ 4 →
    accM V c k (ix2 b j) = ∑ p ∈ Finset.range (1792 * k), prodVal (V c main_v3) (V c main_arg5) b j p
  | 0, _ => by rw [accM, zero1_apply]; simp
  | k + 1, hk => by
    have hk' : k < 4 := hk
    rw [accM, k1_pay2_apply, accM_apply b j k hk'.le, Nat.mul_succ, Finset.sum_range_add]
    refine congrArg (_ + ·) ?_
    rw [← Fin.sum_univ_eq_sum_range (fun q => prodVal (V c main_v3) (V c main_arg5) b j (1792 * k + q)) 1792]
    refine Finset.sum_congr rfl fun q _ => ?_
    have hq : 1792 * k + q.val < 7168 := by omega
    rw [prodVal, dif_pos hq, xsB_apply V c k hk', wsB_apply V c k hk']

/-- After the last point the accumulator and the bias are the hidden layer. -/
theorem accM_final (b : Fin 16) (j : Fin 1024) :
    accM V c 4 (ix2 b j) + V c main_v4 (ix2 0 j) = hidVal (V c main_v3) (V c main_arg5) (V c main_v4) b j := by
  unfold hidVal
  refine congrArg (· + _) ?_
  rw [accM_apply V c b j 4 le_rfl, ← Fin.sum_univ_eq_sum_range (fun p => prodVal (V c main_v3) (V c main_arg5) b j p) 7168]
  exact Finset.sum_congr rfl fun p _ => by rw [prodVal, dif_pos p.2]

/-- The classifier kernel's result at an index. -/
theorem mlpAt_apply (b : Fin 16) (e : Fin 2) :
    mlpAt V c (ix2 b e) = clsVal (V c main_v3) (V c main_arg5) (V c main_v4) (V c main_arg7) (V c main_v5) b e := by
  unfold mlpAt clsVal
  rw [k1_pay3_apply, b1B_eq, w2B_eq, b2B_eq]
  simp only [← accM_final]

/-- The result's array after the launch is the kernel's result. -/
theorem mlp_arr : (dat1 V c).arrAt 5 cfg1.N = mlpAt V c :=
  (dat1 V c).arrAt_eq_of_after_last 5 t1_3 (by decide +kernel) (mlpAt V c) fun _ => rfl

end

section
variable (a : (p : Fin 2) → (pcfgs (F := Ideal) p).Adm)
variable (V : (c : Dev nD) → (b : Ref sig .tc) → Buf (Elt Ideal) ((c : Thread nD τ).loc b)) (c : Dev nD)

/-- The pooled array is written once, whole. -/
theorem whole0 : ((cfg0 (a 0)).win 2).WholeAt t0_0 :=
  ⟨rfl, fun t _ => fin_N0 t, fun k => by fin_cases k <;> exact ⟨rfl, rfl⟩⟩

/-- The pooled array after its launch is the pooling kernel's result. -/
theorem pool_arr (hT : ∀ b, (cnt (tab a) b).toNat ≤ 2048) : (dat0 a V hT c).arrAt 2 (cfg0 (a 0)).N = pooledAt a V hT c :=
  (dat0 a V hT c).arrAt_eq_of_after_last 2 t0_0 (whole0 a) (pooledAt a V hT c) fun _ => rfl

/-- The staged weights and bias are the whole arrays. -/
theorem stgW_eq : stgW a V c = V c main_arg3 := by
  funext i
  show V c main_arg3 _ = V c main_arg3 _
  congr 1
  funext k
  apply Fin.ext
  fin_cases k
  · show 0 * 256 + 1 * (i 0).val = (i 0).val; omega
  · show 0 * 1024 + 1 * (i 1).val = (i 1).val; omega

/-- The staged bias is the whole array. -/
theorem stgB_eq : stgB a V c = V c main_v0 := by
  funext i
  show V c main_v0 _ = V c main_v0 _
  congr 1
  funext k
  apply Fin.ext
  fin_cases k
  · show 0 * 1 + 1 * (i 0).val = (i 0).val; omega
  · show 0 * 256 + 1 * (i 1).val = (i 1).val; omega

end

end Cert.Proof

end
-- ==== Proof.RefValue.lean ====
module

public import proofs.«01_k».proof.Proof.Bins
public import proofs.«01_k».proof.Proof.Gen.ReferenceIdeal.Run
public import Idealize.ShloMosaic.Lib.Pointwise

/-!
The reference's result, in stages: the pooled episodes and what the classifier makes of them, each read at an index.
-/

@[expose] public section

set_option maxRecDepth 16384

noncomputable section

namespace Cert.Proof.Ref

open Idealize.ShloMosaic Idealize.ShloMosaic.TcCoe Idealize.SL.Sem
open Cert.ReferenceIdeal Cert.ReferenceIdeal.Gen

/-- The steps per episode, as the reference's words. -/
def binW (n : IVec S16 32) : IVec S16 32 :=
  maxsi (select (andi (cmpi .ne (signi n) (broadcastInDim S16 ![] bcast_S_S16 (signi (id (constantI S_ 32 24#32))))) (cmpi .ne (Host.remsi n (broadcastInDim S16 ![] bcast_S_S16 (id (constantI S_ 32 24#32)))) (broadcastInDim S16 ![] bcast_S_S16 (constantI S_ 32 0#32)))) (subi (Host.divsi n (broadcastInDim S16 ![] bcast_S_S16 (id (constantI S_ 32 24#32)))) (broadcastInDim S16 ![] bcast_S_S16 (constantI S_ 32 1#32))) (Host.divsi n (broadcastInDim S16 ![] bcast_S_S16 (id (constantI S_ 32 24#32))))) (broadcastInDim S16 ![] bcast_S_S16 (constantI S_ 32 1#32))

/-- The first step of each episode. -/
def startW (n : IVec S16 32) : IVec S16x24 32 :=
  muli (broadcastInDim S16x24 ![0, 1] bcast_S1x24_S16x24_0_1 (broadcastInDim S1x24 ![1] bcast_S24_S1x24_1 (iotaInDim S24 32 0))) (broadcastInDim S16x24 ![0, 1] bcast_S16x1_S16x24_0_1 (broadcastInDim S16x1 ![0] bcast_S16_S16x1_0 (binW n)))

/-- The step after the last of each episode. -/
def endW (n : IVec S16 32) : IVec S16x24 32 :=
  minsi (addi (startW n) (broadcastInDim S16x24 ![0, 1] bcast_S16x1_S16x24_0_1 (broadcastInDim S16x1 ![0] bcast_S16_S16x1_0 (binW n)))) (broadcastInDim S16x24 ![0, 1] bcast_S16x1_S16x24_0_1 (broadcastInDim S16x1 ![0] bcast_S16_S16x1_0 n))

/-- Which steps belong to which episode, as zeros and ones. -/
def maskW (n : IVec S16 32) : FVec Ideal S16x24x2048 .f32 :=
  uitofp .f32 (andi (cmpi .sge (broadcastInDim S16x24x2048 ![0, 1, 2] bcast_S1x1x2048_S16x24x2048_0_1_2 (broadcastInDim S1x1x2048 ![2] bcast_S2048_S1x1x2048_2 (iotaInDim S2048 32 0))) (broadcastInDim S16x24x2048 ![0, 1, 2] bcast_S16x24x1_S16x24x2048_0_1_2 (broadcastInDim S16x24x1 ![0, 1] bcast_S16x24_S16x24x1_0_1 (startW n)))) (cmpi .slt (broadcastInDim S16x24x2048 ![0, 1, 2] bcast_S1x1x2048_S16x24x2048_0_1_2 (broadcastInDim S1x1x2048 ![2] bcast_S2048_S1x1x2048_2 (iotaInDim S2048 32 0))) (broadcastInDim S16x24x2048 ![0, 1, 2] bcast_S16x24x1_S16x24x2048_0_1_2 (broadcastInDim S16x24x1 ![0, 1] bcast_S16x24_S16x24x1_0_1 (endW n)))))

/-- Which episodes have steps, as zeros and ones. -/
def liveW (n : IVec S16 32) : FVec Ideal S16x24 .f32 :=
  uitofp .f32 (cmpi .slt (startW n) (broadcastInDim S16x24 ![0, 1] bcast_S16x1_S16x24_0_1 (broadcastInDim S16x1 ![0] bcast_S16_S16x1_0 n)))

/-- The projected context of every step. -/
def projW (X : FVec Ideal S16x2048x1024 .f32) (W : FVec Ideal S256x1024 .f32) (b : FVec Ideal S256 .f32) : FVec Ideal S16x2048x256 .f32 :=
  addf (Host.dotGeneral dot_S16x2048x1024_S1024x256_S16x2048x256_2_0_01_1_n_n none X (transpose S1024x256 [1, 0] W transposes_S256x1024_S1024x256_1_0)) (broadcastInDim S16x2048x256 ![0, 1, 2] bcast_S1x1x256_S16x2048x256_0_1_2 (broadcastInDim S1x1x256 ![2] bcast_S256_S1x1x256_2 b))

/-- The mean of the projected context over each episode. -/
def poolW (X : FVec Ideal S16x2048x1024 .f32) (n : IVec S16 32) (W : FVec Ideal S256x1024 .f32) (b : FVec Ideal S256 .f32) : FVec Ideal S16x24x256 .f32 :=
  mulf (Host.divf (Host.dotGeneral dot_S16x24x2048_S16x2048x256_S16x24x256_2_1_1_2_0_0 none (maskW n) (projW X W b)) (broadcastInDim S16x24x256 ![0, 1, 2] bcast_S16x24x1_S16x24x256_0_1_2 (broadcastInDim S16x24x1 ![0, 1] bcast_S16x24_S16x24x1_0_1 (maximumf (Host.reduceAdd (maskW n) (constant S_ .f32 0x00000000#32) reducesTo_S16x24x2048_S16x24_d2 h_S_) (broadcastInDim S16x24 ![] bcast_S_S16x24 (constant S_ .f32 0x3F800000#32)))))) (broadcastInDim S16x24x256 ![0, 1, 2] bcast_S16x24x1_S16x24x256_0_1_2 (broadcastInDim S16x24x1 ![0, 1] bcast_S16x24_S16x24x1_0_1 (liveW n)))

/-- The hidden layer before its activation. -/
def hidW (x : FVec Ideal S16x7168 .f32) (W1 : FVec Ideal S1024x7168 .f32) (b1 : FVec Ideal S1024 .f32) : FVec Ideal S16x1024 .f32 :=
  addf (Host.dotGeneral dot_S16x7168_S7168x1024_S16x1024_1_0_0_1_n_n none x (transpose S7168x1024 [1, 0] W1 transposes_S1024x7168_S7168x1024_1_0)) (broadcastInDim S16x1024 ![0, 1] bcast_S1x1024_S16x1024_0_1 (broadcastInDim S1x1024 ![1] bcast_S1024_S1x1024_1 b1))

/-- The classifier's result. -/
def clsW (x : FVec Ideal S16x7168 .f32) (W1 : FVec Ideal S1024x7168 .f32) (b1 : FVec Ideal S1024 .f32) (W2 : FVec Ideal S2x1024 .f32) (b2 : FVec Ideal S2 .f32) : FVec Ideal S16x2 .f32 :=
  addf (Host.dotGeneral dot_S16x1024_S1024x2_S16x2_1_0_0_1_n_n none (mulf (mulf (broadcastInDim S16x1024 ![] bcast_S_S16x1024 (constant S_ .f32 0x3F000000#32)) (hidW x W1 b1)) (Host.erfc (mulf (Host.negf (hidW x W1 b1)) (broadcastInDim S16x1024 ![] bcast_S_S16x1024 (constant S_ .f32 0x3F3504F3#32))))) (transpose S1024x2 [1, 0] W2 transposes_S2x1024_S1024x2_1_0)) (broadcastInDim S16x2 ![0, 1] bcast_S1x2_S16x2_0_1 (broadcastInDim S1x2 ![1] bcast_S2_S1x2_1 b2))

/-- The classifier's inputs: the query beside the pooled episodes. -/
def joinW (q : FVec Ideal S16x1024 .f32) (p : FVec Ideal S16x24x256 .f32) : FVec Ideal S16x7168 .f32 :=
  concatenate S16x7168 1 [⟨S16x1024, q⟩, ⟨S16x6144, (shapeCast _ p shapeCasts_S16x24x256_S16x6144)⟩] concatenates_S16x1024_S16x6144_S16x7168_d1

/-- The reference's result in its stages. -/
theorem res_stages (m : (ℓ : Loc nD τ sig) → Buf (Elt Ideal) ℓ) (c : Dev nD) :
    Cert.ReferenceIdeal.Value.res_main_v65 m c
      = clsW (joinW (m ((c.tc : Thread nD τ).loc main_arg0)) (poolW (m ((c.tc : Thread nD τ).loc main_arg1)) (m ((c.tc : Thread nD τ).loc main_arg2)) (m ((c.tc : Thread nD τ).loc main_arg3)) (m ((c.tc : Thread nD τ).loc main_arg4))))
          (m ((c.tc : Thread nD τ).loc main_arg5)) (m ((c.tc : Thread nD τ).loc main_arg6)) (m ((c.tc : Thread nD τ).loc main_arg7)) (m ((c.tc : Thread nD τ).loc main_arg8)) := by
  unfold Cert.ReferenceIdeal.Value.res_main_v65 clsW hidW joinW poolW projW liveW maskW endW startW binW
  rfl

section
variable (n : IVec S16 32)

/-- The reference's floor division by 24, at least one, on every count the lengths may take. -/
theorem bin_all : ∀ k : Fin 2049, (let v : BitVec 32 := BitVec.ofNat 32 k
    IntOp.maxsi (Scalar.select (IntOp.andi
        (IntOp.cmpi .ne (if v = 0 then (0 : BitVec 32) else if v.msb = true then -1 else 1) (if (24#32) = 0 then (0 : BitVec 32) else if (24#32).msb = true then -1 else 1))
        (IntOp.cmpi .ne (IntOp.remsi .host v 24#32) 0#32)) (IntOp.subi (IntOp.divsi .host v 24#32) 1#32) (IntOp.divsi .host v 24#32)) 1#32)
      = BitVec.ofNat 32 (epLen k) := by decide +kernel

variable (b : Fin 16) (hb : (n (ix1 b)).toNat ≤ 2048)
include hb

/-- The steps per episode at a sample. -/
theorem binW_apply : binW n (ix1 b) = BitVec.ofNat 32 (epLen (n (ix1 b)).toNat) := by
  have e := bin_all ⟨(n (ix1 b)).toNat, by omega⟩
  dsimp only at e
  rw [ofNat_toNat] at e
  rw [← e]
  pointwise [binW]
  rfl

variable (h : Fin 24)

/-- An episode's first step, -/
theorem startW_apply : startW n (ix2 b h) = BitVec.ofNat 32 (lo (n (ix1 b)).toNat h) := by
  pointwise [startW]
  rw [binW_apply n b hb, lo_word]

/-- and its end. -/
theorem endW_apply : endW n (ix2 b h) = BitVec.ofNat 32 (hi (n (ix1 b)).toNat h) := by
  pointwise [endW]
  rw [startW_apply n b hb, binW_apply n b hb, ← hi_word hb h.2, ofNat_toNat]

/-- The mask at a step is one where the step is in the episode. -/
theorem maskW_apply (p : Fin 2048) : maskW n (ix3 b h p) = ((bit (inBin (n (ix1 b)).toNat h p) : ℝ) : EReal) := by
  pointwise [maskW]
  rw [startW_apply n b hb, endW_apply n b hb, bin_word hb h.2 (by omega), bit_unsigned]

/-- An episode has steps if it starts before the sample's end. -/
theorem liveW_apply : liveW n (ix2 b h) = ((bit (lo (n (ix1 b)).toNat h < (n (ix1 b)).toNat) : ℝ) : EReal) := by
  pointwise [liveW]
  have h1 := lo_lt hb h.2
  have e := cmpi_slt (a := lo (n (ix1 b)).toNat h) (b := (n (ix1 b)).toNat) (by omega) (by omega)
  rw [ofNat_toNat] at e
  rw [startW_apply n b hb, e, bit_unsigned]

/-- The reference's pooled value: the masked sum of the projected steps over their number, and nothing for an episode without steps. -/
theorem poolW_apply (X : FVec Ideal S16x2048x1024 .f32) (W : FVec Ideal S256x1024 .f32) (bp : FVec Ideal S256 .f32) (e : Fin 256) :
    poolW X n W bp (ix3 b h e)
      = Ideal.div (∑ p : Fin 2048, ((bit (inBin (n (ix1 b)).toNat h p) : ℝ) : EReal) * (∑ d : Fin 1024, X (ix3 b p d) * W (ix2 e d) + bp (ix1 e)))
          (max (∑ p : Fin 2048, ((bit (inBin (n (ix1 b)).toNat h p) : ℝ) : EReal)) 1)
        * ((bit (lo (n (ix1 b)).toNat h < (n (ix1 b)).toNat) : ℝ) : EReal) := by
  pointwise [poolW, projW, dot_S16x24x2048_S16x2048x256_S16x24x256_2_1_1_2_0_0, dot_S16x2048x1024_S1024x256_S16x2048x256_2_0_01_1_n_n]
  simp only [maskW_apply n b hb, liveW_apply n b hb]

end

/-- The classifier's value in sums. -/
theorem clsW_apply (x : FVec Ideal S16x7168 .f32) (W1 : FVec Ideal S1024x7168 .f32) (b1 : FVec Ideal S1024 .f32) (W2 : FVec Ideal S2x1024 .f32)
    (b2 : FVec Ideal S2 .f32) (b : Fin 16) (e : Fin 2) :
    clsW x W1 b1 W2 b2 (ix2 b e)
      = ∑ j : Fin 1024, Ideal.ofBits .f32 0x3F000000#32 * (∑ k : Fin 7168, x (ix2 b k) * W1 (ix2 j k) + b1 (ix1 j))
          * Ideal.erfc (-(∑ k : Fin 7168, x (ix2 b k) * W1 (ix2 j k) + b1 (ix1 j)) * Ideal.ofBits .f32 0x3F3504F3#32) * W2 (ix2 e j) + b2 (ix1 e) := by
  pointwise [clsW, hidW, dot_S16x1024_S1024x2_S16x2_1_0_0_1_n_n, dot_S16x7168_S7168x1024_S16x1024_1_0_0_1_n_n]

end Cert.Proof.Ref

end
-- ==== Proof.Algebraic.lean ====
module

public import proofs.«01_k».proof.Defs
public import proofs.«01_k».proof.Proof.Frames
public import proofs.«01_k».proof.Proof.PoolValue
public import proofs.«01_k».proof.Proof.MlpValue
public import proofs.«01_k».proof.Proof.RefValue
public import proofs.«01_k».proof.Proof.RefFrame

/-!
The kernel computes the reference over the reals: both pool the same means, and both classify them alike.
-/

@[expose] public section

set_option maxRecDepth 16384
set_option maxHeartbeats 20000000

noncomputable section

namespace Cert.Proof

open Idealize.ShloMosaic Idealize.ShloMosaic.TcCoe
open Idealize.SL.Sem
open Cert.KernelIdeal Cert.KernelIdeal.Gen

/-- The side conditions the precondition's operations take. -/
theorem finite_facts : Cert.Pre_pooling_finite.Facts := ⟨by decide, by decide, by decide⟩

/-- A value whose absolute value is below infinity is a real. -/
theorem eq_coe_of_abs_lt (x : EReal)
    (h : FloatOps.cmpf (F := Ideal) (φ := .f32) .olt (FloatOps.hostAbsf (F := Ideal) (φ := .f32) x) (FloatOps.ofBits (F := Ideal) .f32 0x7F800000#32) = 1#1) :
    x = (x.toReal : EReal) := by
  have htop : Ideal.ofBits .f32 0x7F800000#32 = ⊤ := by simp [Ideal.ofBits, Ideal.ieee]
  change BitVec.ofBool (decide (max x (-x) < Ideal.ofBits .f32 0x7F800000#32)) = 1#1 at h
  rw [htop] at h
  have hlt : max x (-x) < ⊤ := by
    by_contra hn
    rw [decide_eq_false hn] at h
    exact absurd h (by decide)
  refine (EReal.coe_toReal (ne_of_lt (lt_of_le_of_lt (le_max_left _ _) hlt)) fun hb => ?_).symm
  subst hb
  simp at hlt

section
variable (m : (ℓ : Loc nD τ sig) → Buf (Elt Ideal) ℓ)

/-- The arguments, read as arrays. -/
abbrev aQ (c : Dev nD) : FVec Ideal S16x1024 .f32 := m ((c.tc : Thread nD τ).loc main_arg0)
abbrev aX (c : Dev nD) : FVec Ideal S16x2048x1024 .f32 := m ((c.tc : Thread nD τ).loc main_arg1)
abbrev aN (c : Dev nD) : IVec S16 32 := m ((c.tc : Thread nD τ).loc main_arg2)
abbrev aWp (c : Dev nD) : FVec Ideal S256x1024 .f32 := m ((c.tc : Thread nD τ).loc main_arg3)
abbrev abp (c : Dev nD) : FVec Ideal S256 .f32 := m ((c.tc : Thread nD τ).loc main_arg4)
abbrev aW1 (c : Dev nD) : FVec Ideal S1024x7168 .f32 := m ((c.tc : Thread nD τ).loc main_arg5)
abbrev ab1 (c : Dev nD) : FVec Ideal S1024 .f32 := m ((c.tc : Thread nD τ).loc main_arg6)
abbrev aW2 (c : Dev nD) : FVec Ideal S2x1024 .f32 := m ((c.tc : Thread nD τ).loc main_arg7)
abbrev ab2 (c : Dev nD) : FVec Ideal S2 .f32 := m ((c.tc : Thread nD τ).loc main_arg8)

/-- What the precondition says of the counts, the context and the projection's weights. -/
theorem inRange_finite (h : @Cert.Pre_KernelIdeal_pooling_finite finite_facts m) : InRange m :=
  inRange_of_words m fun y => congrFun (h 0).1 y

/-- Under the precondition every entry of the context is a real, -/
theorem finite_X (h : @Cert.Pre_KernelIdeal_pooling_finite finite_facts m) (c : Dev nD) (i : S16x2048x1024.Idx) : aX m c i = ((aX m c i).toReal : EReal) :=
  eq_coe_of_abs_lt _ (congrFun (h c).2.1 i)

/-- and so is every entry of the projection's weights. -/
theorem finite_Wp (h : @Cert.Pre_KernelIdeal_pooling_finite finite_facts m) (c : Dev nD) (i : S256x1024.Idx) : aWp m c i = ((aWp m c i).toReal : EReal) :=
  eq_coe_of_abs_lt _ (congrFun (h c).2.2 i)

/-- A sample's count is its entry of the lengths. -/
theorem cnt_eq (T : BufTy.Contents (Elt Ideal) (Ref.ty main_arg2)) (b : Fin 16) : cnt T b = T (ix1 b) := by
  show T _ = T _
  congr 1
  funext k
  apply Fin.ext
  fin_cases k
  exact (Nat.add_zero _).trans (congrFun (off1_eq b) 0)

variable (hT : InRange m)

/-- A vector as a row. -/
theorem row256_apply (v : FVec Ideal S256 .f32) (e : Fin 256) : shapeCast S1x256 v shapeCasts_S256_S1x256 (ix2 0 e) = v (ix1 e) := by pointwise
theorem row1024_apply (v : FVec Ideal S1024 .f32) (j : Fin 1024) : shapeCast S1x1024 v shapeCasts_S1024_S1x1024 (ix2 0 j) = v (ix1 j) := by pointwise
theorem row2_apply (v : FVec Ideal S2 .f32) (e : Fin 2) : shapeCast S1x2 v shapeCasts_S2_S1x2 (ix2 0 e) = v (ix1 e) := by pointwise

/-- The projection's bias as the pooling launch receives it. -/
theorem entry_bias (c : Dev nD) : E1 m c main_v0 = shapeCast S1x256 (abp m c) shapeCasts_S256_S1x256 := by
  show StableHlo.after hostOps0 (V0 m c) (Proc.devRef .tc main_v0) = _
  after_results_simp
  rfl

/-- The pooled array is the reference's. -/
theorem pooled_eq (h : @Cert.Pre_KernelIdeal_pooling_finite finite_facts m) (c : Dev nD) :
    pooledAt (adm m) (E1 m) hT c = Ref.poolW (aX m c) (aN m c) (aWp m c) (abp m c) := by
  obtain rfl : c = (0 : Dev nD) := Subsingleton.elim _ _
  have eX : E1 m 0 main_arg1 = aX m 0 := V1_of m 0 main_arg1 (by decide)
  have eW : stgW (adm m) (E1 m) 0 = aWp m 0 := (stgW_eq _ _ _).trans (V1_of m 0 main_arg3 (by decide))
  funext i
  obtain ⟨b, g, e, rfl⟩ : ∃ (b : Fin 16) (g : Fin 24) (e : Fin 256), i = ix3 b g e := ⟨i 0, i 1, i 2, eq_ix3 i⟩
  have hn : cnt (tab (adm m)) b = aN m 0 (ix1 b) := cnt_eq _ b
  have hb : (aN m 0 (ix1 b)).toNat ≤ 2048 := hn ▸ hT b
  unfold pooledAt
  rw [eX, eW, stgB_eq, entry_bias]
  rw [poolOut_apply (aX m 0) _ hT (aWp m 0) _ _ (finite_X m h 0) _ (finite_Wp m h 0) b _ (congrArg BitVec.toNat hn) g e,
    Ref.poolW_apply (aN m 0) b hb g (aX m 0) (aWp m 0) (abp m 0) e]
  simp only [row256_apply]

/-- What the classifier launch receives: the query joined with the pooled array, its two weights and its two biases. -/
theorem entry_x (h : @Cert.Pre_KernelIdeal_pooling_finite finite_facts m) (c : Dev nD) :
    E3 m hT c main_v3 = Ref.joinW (aQ m c) (Ref.poolW (aX m c) (aN m c) (aWp m c) (abp m c)) := by
  have e1 : (W2 m hT c main_v1 : FVec Ideal S16x24x256 .f32) = Ref.poolW (aX m c) (aN m c) (aWp m c) (abp m c) :=
    (W2_out m hT c).trans ((pool_arr (adm m) (E1 m) c hT).trans (pooled_eq m hT h c))
  have e0 : W2 m hT c main_arg0 = aQ m c := (W2_ne m hT c main_arg0 (by decide)).trans (V1_of m c main_arg0 (by decide))
  show StableHlo.after hostOps1 (W2 m hT c) (Proc.devRef .tc main_v3) = _
  after_results_simp
  rw [← e1, ← e0]
  rfl

/-- A buffer that neither host stretch nor the pooling launch writes reaches the classifier launch as it was at the start. -/
theorem entry_keep (c : Dev nD) (r : Ref sig .tc) (h1 : r ∉ hostOps1_W) (h2 : r ≠ main_v1) (h3 : r ∉ hostOps0_W) :
    E3 m hT c r = m ((c.tc : Thread nD τ).loc r) :=
  (StableHlo.after_of_writes_sub hostOps1 _ hostOps1_writes h1).trans ((W2_ne m hT c r h2).trans (V1_of m c r h3))

/-- The hidden layer's bias reaches it as a row, -/
theorem entry_b1 (c : Dev nD) : E3 m hT c main_v4 = shapeCast S1x1024 (ab1 m c) shapeCasts_S1024_S1x1024 := by
  have e0 : W2 m hT c main_arg6 = ab1 m c := (W2_ne m hT c main_arg6 (by decide)).trans (V1_of m c main_arg6 (by decide))
  show StableHlo.after hostOps1 (W2 m hT c) (Proc.devRef .tc main_v4) = _
  after_results_simp
  rw [← e0]
  rfl

/-- and so does the last layer's. -/
theorem entry_b2 (c : Dev nD) : E3 m hT c main_v5 = shapeCast S1x2 (ab2 m c) shapeCasts_S2_S1x2 := by
  have e0 : W2 m hT c main_arg8 = ab2 m c := (W2_ne m hT c main_arg8 (by decide)).trans (V1_of m c main_arg8 (by decide))
  show StableHlo.after hostOps1 (W2 m hT c) (Proc.devRef .tc main_v5) = _
  after_results_simp
  rw [← e0]
  rfl

/-- The classifier's result is the reference's. -/
theorem result_eq (h : @Cert.Pre_KernelIdeal_pooling_finite finite_facts m) (c : Dev nD) :
    (dat1 (E3 m hT) c).arrAt 5 cfg1.N
      = Ref.clsW (Ref.joinW (aQ m c) (Ref.poolW (aX m c) (aN m c) (aWp m c) (abp m c))) (aW1 m c) (ab1 m c) (aW2 m c) (ab2 m c) := by
  have e5 : E3 m hT c main_arg5 = aW1 m c := entry_keep m hT c main_arg5 (by decide) (by decide) (by decide)
  have e7 : E3 m hT c main_arg7 = aW2 m c := entry_keep m hT c main_arg7 (by decide) (by decide) (by decide)
  rw [mlp_arr]
  funext i
  obtain ⟨b, e, rfl⟩ : ∃ (b : Fin 16) (e : Fin 2), i = ix2 b e := ⟨i 0, i 1, eq_ix2 i⟩
  rw [mlpAt_apply, entry_x m hT h, e5, e7, entry_b1, entry_b2, Ref.clsW_apply]
  unfold clsVal hidVal
  simp only [row1024_apply, row2_apply, EReal.neg_mul, Ideal.erfc_neg]

end

/-- The idealized kernel's frame under the value claim's precondition. -/
theorem frame_ideal_finite : @Cert.quiescent_KernelIdeal_pre_pooling_finite Cert.KernelIdeal.Gen.facts finite_facts := fun m ρ h =>
  (θ_run defs _ _).mono (fun _ h => ⟨fun c => (h.1 c).2, h.2⟩) (run_result (F := Ideal) m (inRange_finite m h) ρ)

/-- The reference's frame under the same precondition. -/
theorem frame_reference_finite : @Cert.quiescent_ReferenceIdeal_pre_pooling_finite Cert.ReferenceIdeal.Gen.facts finite_facts := fun m ρ _ =>
  frame_reference m ρ trivial

/-- Over the reals the kernel's result is the reference's. -/
theorem algebraic : @Cert.algebraic_KernelIdeal_ReferenceIdeal_pre_pooling_finite Cert.KernelIdeal.Gen.facts Cert.ReferenceIdeal.Gen.facts finite_facts :=
  fun m ρ m' ρ' h hagree => by
    have hT := inRange_finite m h
    refine ⟨_, (θ_run defs _ _).mono (fun _ h => h.1) (run_result (F := Ideal) m hT ρ), ?_⟩
    refine (θ_run Cert.ReferenceIdeal.defs _ _).mono (fun _ k c => ⟨(k c).1.trans ?_, (k c).2⟩) (Cert.ReferenceIdeal.Value.run (F := Ideal) m' ρ')
    obtain ⟨h0, h1, h2, h3, h4, h5, h6, h7, h8⟩ := hagree c
    rw [Ref.res_stages, h0, h1, h2, h3, h4, h5, h6, h7, h8]
    exact (result_eq m hT h c).symm

end Cert.Proof

end
-- ==== Proof.lean ====
module

public import proofs.«01_k».proof.Defs
public import proofs.«01_k».proof.Proof.Frames
public import proofs.«01_k».proof.Proof.RefFrame
public import proofs.«01_k».proof.Proof.Algebraic

/-!
The certificate's claims, assembled.
-/

@[expose] public section

noncomputable section

namespace Cert.Proof

/-- Everything the certificate claims. -/
theorem claim : Cert.Claim :=
  ⟨Cert.Kernel.Gen.facts, Cert.KernelIdeal.Gen.facts, Cert.ReferenceIdeal.Gen.facts, Cert.Pre_lengths_in_range.Gen.facts, finite_facts,
    frame_kernel, frame_ideal, frame_ideal_finite, frame_reference, frame_reference_finite, trivial, algebraic⟩

end Cert.Proof
